-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "q_scale" .f32 0x3E16C740#32 (((Real.log 2)⁻¹ * (3424635 / 33554432) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x768 : Shape := ⟨3, ![8, 2048, 768]⟩
abbrev S8x2048x1024 : Shape := ⟨3, ![8, 2048, 1024]⟩
abbrev S8x2048x32 : Shape := ⟨3, ![8, 2048, 32]⟩
abbrev S8x256x1024 : Shape := ⟨3, ![8, 256, 1024]⟩
abbrev S8x256x32 : Shape := ⟨3, ![8, 256, 32]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x2048x32 : S_.BroadcastsInDim S8x2048x32 (![] : Fin 0 → Fin S8x2048x32.rank)
  reducesTo_S8x2048x32_S_d0_1_2 : S8x2048x32.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S8x256x32 : S_.BroadcastsInDim S8x256x32 (![] : Fin 0 → Fin S8x256x32.rank)
  reducesTo_S8x256x32_S_d0_1_2 : S8x256x32.ReducesTo [0, 1, 2] S_

variable [Facts]

def fn_part1 {F : FTy → Type} [FloatOps F] (main_arg4 : FVec F S8x256x32 .f32) (main_v13 : IVec S_ 1) (main_v16 : IVec S8x256x1024 1) : IVec S_ 1 :=
  let main_c_5 : IVec S_ 1 := constantI S_ 1 1#1
  let main_v17 : IVec S_ 1 := (fun x v => Host.reduce IntOp.andi x v reducesTo_S8x256x1024_S_d0_1_2 h_S_) main_v16 main_c_5
  let main_v18 : IVec S_ 1 := andi main_v13 main_v17
  let main_v19 : FVec F S8x256x32 .f32 := Host.absf main_arg4
  let main_cst_6 : FVec F S_ .f32 := constant S_ .f32 0x7F800000#32
  let main_v20 : FVec F S8x256x32 .f32 := broadcastInDim S8x256x32 ![] bcast_S_S8x256x32 main_cst_6
  let main_v21 : IVec S8x256x32 1 := cmpf .olt main_v19 main_v20
  let main_c_7 : IVec S_ 1 := constantI S_ 1 1#1
  let main_v22 : IVec S_ 1 := (fun x v => Host.reduce IntOp.andi x v reducesTo_S8x256x32_S_d0_1_2 h_S_) main_v21 main_c_7
  let main_v23 : IVec S_ 1 := andi main_v18 main_v22
  main_v23

def fn {F : FTy → Type} [FloatOps F] (main_arg0 : FVec F S8x2048x768 .f32) (main_arg1 : FVec F S8x2048x1024 .f32) (main_arg2 : FVec F S8x2048x32 .f32) (main_arg3 : FVec F S8x256x1024 .f32) (main_arg4 : FVec F S8x256x32 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x32 .f32 := Host.absf main_arg2
  let main_cst_2 : FVec F S_ .f32 := constant S_ .f32 0x7F800000#32
  let main_v10 : FVec F S8x2048x32 .f32 := broadcastInDim S8x2048x32 ![] bcast_S_S8x2048x32 main_cst_2
  let main_v11 : IVec S8x2048x32 1 := cmpf .olt main_v9 main_v10
  let main_c_3 : IVec S_ 1 := constantI S_ 1 1#1
  let main_v12 : IVec S_ 1 := (fun x v => Host.reduce IntOp.andi x v reducesTo_S8x2048x32_S_d0_1_2 h_S_) main_v11 main_c_3
  let main_v13 : IVec S_ 1 := andi main_v8 main_v12
  let main_v14 : FVec F S8x256x1024 .f32 := Host.absf main_arg3
  let main_cst_4 : FVec F S_ .f32 := constant S_ .f32 0x7F800000#32
  let main_v15 : FVec F S8x256x1024 .f32 := broadcastInDim S8x256x1024 ![] bcast_S_S8x256x1024 main_cst_4
  let main_v16 : IVec S8x256x1024 1 := cmpf .olt main_v14 main_v15
  fn_part1 (F := F) main_arg4 main_v13 main_v16
-- ==== Kernel.lean ====
abbrev S8x2048x768 : Shape := ⟨3, ![8, 2048, 768]⟩
abbrev S8x2048x1024 : Shape := ⟨3, ![8, 2048, 1024]⟩
abbrev S8x2048x32 : Shape := ⟨3, ![8, 2048, 32]⟩
abbrev S8x256x1024 : Shape := ⟨3, ![8, 256, 1024]⟩
abbrev S8x256x32 : Shape := ⟨3, ![8, 256, 32]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S8x2048x8x96 : Shape := ⟨4, ![8, 2048, 8, 96]⟩
abbrev S8x2048x8x128 : Shape := ⟨4, ![8, 2048, 8, 128]⟩
abbrev S8x2048x8x32 : Shape := ⟨4, ![8, 2048, 8, 32]⟩
abbrev S8x2048x8x16 : Shape := ⟨4, ![8, 2048, 8, 16]⟩
abbrev S8x2048x16 : Shape := ⟨3, ![8, 2048, 16]⟩
abbrev S8x2048x8x64 : Shape := ⟨4, ![8, 2048, 8, 64]⟩
abbrev S8x2048x512 : Shape := ⟨3, ![8, 2048, 512]⟩
abbrev S8x256x8x128 : Shape := ⟨4, ![8, 256, 8, 128]⟩
abbrev S8x256x8x64 : Shape := ⟨4, ![8, 256, 8, 64]⟩
abbrev S8x256x512 : Shape := ⟨3, ![8, 256, 512]⟩
abbrev S8x2048x128 : Shape := ⟨3, ![8, 2048, 128]⟩
abbrev S8x256x128 : Shape := ⟨3, ![8, 256, 128]⟩
abbrev S1x512x1024 : Shape := ⟨3, ![1, 512, 1024]⟩
abbrev S512x128 : Shape := ⟨2, ![512, 128]⟩
abbrev S1x2048x1024 : Shape := ⟨3, ![1, 2048, 1024]⟩
abbrev S1x2048x128 : Shape := ⟨3, ![1, 2048, 128]⟩
abbrev S1x2048x512 : Shape := ⟨3, ![1, 2048, 512]⟩
abbrev S1x256x1024 : Shape := ⟨3, ![1, 256, 1024]⟩
abbrev S1x256x128 : Shape := ⟨3, ![1, 256, 128]⟩
abbrev S1x256x512 : Shape := ⟨3, ![1, 256, 512]⟩
abbrev S1x512x512 : Shape := ⟨3, ![1, 512, 512]⟩
abbrev S8x2304x128 : Shape := ⟨3, ![8, 2304, 128]⟩
abbrev S8x80x2304 : Shape := ⟨3, ![8, 80, 2304]⟩
abbrev S256x128 : Shape := ⟨2, ![256, 128]⟩
abbrev S16x2304 : Shape := ⟨2, ![16, 2304]⟩
abbrev S1x16x2304 : Shape := ⟨3, ![1, 16, 2304]⟩
abbrev S128x2048 : Shape := ⟨2, ![128, 2048]⟩
abbrev S64x2048 : Shape := ⟨2, ![64, 2048]⟩
abbrev S1x64x2048 : Shape := ⟨3, ![1, 64, 2048]⟩
abbrev S128x256 : Shape := ⟨2, ![128, 256]⟩
abbrev S64x256 : Shape := ⟨2, ![64, 256]⟩
abbrev S1x64x256 : Shape := ⟨3, ![1, 64, 256]⟩
abbrev S1x512x128 : Shape := ⟨3, ![1, 512, 128]⟩
abbrev S1x512 : Shape := ⟨2, ![1, 512]⟩
abbrev S80x512 : Shape := ⟨2, ![80, 512]⟩
abbrev S256x512 : Shape := ⟨2, ![256, 512]⟩
abbrev S512 : Shape := ⟨1, ![512]⟩
abbrev S1x80x256 : Shape := ⟨3, ![1, 80, 256]⟩
abbrev S80x256 : Shape := ⟨2, ![80, 256]⟩
abbrev S64x512 : Shape := ⟨2, ![64, 512]⟩
abbrev S128x512 : Shape := ⟨2, ![128, 512]⟩

abbrev nBuf : Space → Nat
  | .hbm => 97
  | .vmem => 28
  | .smem => 0
  | _ => 0

abbrev bufTy : (tb : Table) → Fin (tcTables nBuf tb) → BufTy
  | .hbm, ⟨0, _⟩ => ⟨S8x2048x768, .f32⟩
  | .hbm, ⟨1, _⟩ => ⟨S8x2048x1024, .f32⟩
  | .hbm, ⟨2, _⟩ => ⟨S8x2048x32, .f32⟩
  | .hbm, ⟨3, _⟩ => ⟨S8x256x1024, .f32⟩
  | .hbm, ⟨4, _⟩ => ⟨S8x256x32, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x1, .f32⟩
  | .hbm, ⟨26, _⟩ => ⟨S1x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S_, .f32⟩
  | .hbm, ⟨34, _⟩ => ⟨S2048x64, .f32⟩
  | .hbm, ⟨35, _⟩ => ⟨S_, .f32⟩
  | .hbm, ⟨36, _⟩ => ⟨S2048x64, .f32⟩
  | .hbm, ⟨37, _⟩ => ⟨S_, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x128, .f32⟩
  | .hbm, ⟨42, _⟩ => ⟨S2048x128, .f32⟩
  | .hbm, ⟨43, _⟩ => ⟨S2048x128, .f32⟩
  | .hbm, ⟨44, _⟩ => ⟨S8x2048x8x96, .f32⟩
  | .hbm, ⟨45, _⟩ => ⟨S_, .i32⟩
  | .hbm, ⟨46, _⟩ => ⟨S_, .f32⟩
  | .hbm, ⟨47, _⟩ => ⟨S8x2048x8x128, .f32⟩
  | .hbm, ⟨48, _⟩ => ⟨S8x2048x1024, .f32⟩
  | .hbm, ⟨49, _⟩ => ⟨S8x2048x1024, .bf16⟩
  | .hbm, ⟨50, _⟩ => ⟨S8x2048x8x32, .f32⟩
  | .hbm, ⟨51, _⟩ => ⟨S8x2048x8x16, .f32⟩
  | .hbm, ⟨52, _⟩ => ⟨S8x2048x8x16, .f32⟩
  | .hbm, ⟨53, _⟩ => ⟨S8x2048x8x16, .f32⟩
  | .hbm, ⟨54, _⟩ => ⟨S8x2048x8x32, .f32⟩
  | .hbm, ⟨55, _⟩ => ⟨S_, .i32⟩
  | .hbm, ⟨56, _⟩ => ⟨S_, .f32⟩
  | .hbm, ⟨57, _⟩ => ⟨S8x2048x8x128, .f32⟩
  | .hbm, ⟨58, _⟩ => ⟨S8x2048x1024, .f32⟩
  | .hbm, ⟨59, _⟩ => ⟨S8x2048x1024, .bf16⟩
  | .hbm, ⟨60, _⟩ => ⟨S8x2048x16, .f32⟩
  | .hbm, ⟨61, _⟩ => ⟨S8x2048x16, .f32⟩
  | .hbm, ⟨62, _⟩ => ⟨S8x2048x16, .f32⟩
  | .hbm, ⟨63, _⟩ => ⟨S8x2048x32, .f32⟩
  | .hbm, ⟨64, _⟩ => ⟨S8x2048x8x128, .f32⟩
  | .hbm, ⟨65, _⟩ => ⟨S8x2048x8x64, .f32⟩
  | .hbm, ⟨66, _⟩ => ⟨S_, .i32⟩
  | .hbm, ⟨67, _⟩ => ⟨S_, .f32⟩
  | .hbm, ⟨68, _⟩ => ⟨S8x2048x8x128, .f32⟩
  | .hbm, ⟨69, _⟩ => ⟨S8x2048x1024, .f32⟩
  | .hbm, ⟨70, _⟩ => ⟨S8x2048x1024, .bf16⟩
  | .hbm, ⟨71, _⟩ => ⟨S8x2048x8x64, .f32⟩
  | .hbm, ⟨72, _⟩ => ⟨S8x2048x512, .f32⟩
  | .hbm, ⟨73, _⟩ => ⟨S8x2048x512, .bf16⟩
  | .hbm, ⟨74, _⟩ => ⟨S8x256x8x128, .f32⟩
  | .hbm, ⟨75, _⟩ => ⟨S8x256x8x64, .f32⟩
  | .hbm, ⟨76, _⟩ => ⟨S_, .i32⟩
  | .hbm, ⟨77, _⟩ => ⟨S_, .f32⟩
  | .hbm, ⟨78, _⟩ => ⟨S8x256x8x128, .f32⟩
  | .hbm, ⟨79, _⟩ => ⟨S8x256x1024, .f32⟩
  | .hbm, ⟨80, _⟩ => ⟨S8x256x1024, .bf16⟩
  | .hbm, ⟨81, _⟩ => ⟨S8x256x8x64, .f32⟩
  | .hbm, ⟨82, _⟩ => ⟨S8x256x512, .f32⟩
  | .hbm, ⟨83, _⟩ => ⟨S8x256x512, .bf16⟩
  | .hbm, ⟨84, _⟩ => ⟨S_, .i32⟩
  | .hbm, ⟨85, _⟩ => ⟨S_, .f32⟩
  | .hbm, ⟨86, _⟩ => ⟨S8x2048x128, .f32⟩
  | .hbm, ⟨87, _⟩ => ⟨S8x2048x128, .bf16⟩
  | .hbm, ⟨88, _⟩ => ⟨S_, .i32⟩
  | .hbm, ⟨89, _⟩ => ⟨S_, .f32⟩
  | .hbm, ⟨90, _⟩ => ⟨S8x2048x128, .f32⟩
  | .hbm, ⟨91, _⟩ => ⟨S8x2048x128, .bf16⟩
  | .hbm, ⟨92, _⟩ => ⟨S_, .i32⟩
  | .hbm, ⟨93, _⟩ => ⟨S_, .f32⟩
  | .hbm, ⟨94, _⟩ => ⟨S8x256x128, .f32⟩
  | .hbm, ⟨95, _⟩ => ⟨S8x256x128, .bf16⟩
  | .hbm, ⟨96, _⟩ => ⟨S8x2048x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S2048x128, .f32⟩
  | .local _ .vmem, ⟨15, _⟩ => ⟨S2048x128, .f32⟩
  | .local _ .vmem, ⟨16, _⟩ => ⟨S1x2048x512, .bf16⟩
  | .local _ .vmem, ⟨17, _⟩ => ⟨S1x2048x512, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x128, .bf16⟩
  | .local _ .vmem, ⟨21, _⟩ => ⟨S1x256x128, .bf16⟩
  | .local _ .vmem, ⟨22, _⟩ => ⟨S1x256x512, .bf16⟩
  | .local _ .vmem, ⟨23, _⟩ => ⟨S1x256x512, .bf16⟩
  | .local _ .vmem, ⟨24, _⟩ => ⟨S1x512x512, .bf16⟩
  | .local _ .vmem, ⟨25, _⟩ => ⟨S1x512x512, .bf16⟩
  | .local _ .vmem, ⟨26, _⟩ => ⟨S8x2304x128, .bf16⟩
  | .local _ .vmem, ⟨27, _⟩ => ⟨S8x80x2304, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_call1_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_5 : Ref sig .tc := ⟨.hbm, 66, rfl⟩
abbrev main_call2_v0 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_6 : Ref sig .tc := ⟨.hbm, 76, rfl⟩
abbrev main_call3_v0 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_7 : Ref sig .tc := ⟨.hbm, 84, rfl⟩
abbrev main_call4_v0 : Ref sig .tc := ⟨.hbm, 85, rfl⟩
abbrev main_v66 : Ref sig .tc := ⟨.hbm, 86, rfl⟩
abbrev main_v67 : Ref sig .tc := ⟨.hbm, 87, rfl⟩
abbrev main_c_8 : Ref sig .tc := ⟨.hbm, 88, rfl⟩
abbrev main_call5_v0 : Ref sig .tc := ⟨.hbm, 89, rfl⟩
abbrev main_v68 : Ref sig .tc := ⟨.hbm, 90, rfl⟩
abbrev main_v69 : Ref sig .tc := ⟨.hbm, 91, rfl⟩
abbrev main_c_9 : Ref sig .tc := ⟨.hbm, 92, rfl⟩
abbrev main_call6_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "q_scale" => some (((Real.log 2)⁻¹ * (3424635 / 33554432) : ℝ) : EReal)
  | _ => none
-- ==== ReferenceIdeal.lean ====
abbrev S8x2048x768 : Shape := ⟨3, ![8, 2048, 768]⟩
abbrev S8x2048x1024 : Shape := ⟨3, ![8, 2048, 1024]⟩
abbrev S8x2048x32 : Shape := ⟨3, ![8, 2048, 32]⟩
abbrev S8x256x1024 : Shape := ⟨3, ![8, 256, 1024]⟩
abbrev S8x256x32 : Shape := ⟨3, ![8, 256, 32]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S8x2048x8x96 : Shape := ⟨4, ![8, 2048, 8, 96]⟩
abbrev S8x2048x8x64 : Shape := ⟨4, ![8, 2048, 8, 64]⟩
abbrev S8x2048x8x32 : Shape := ⟨4, ![8, 2048, 8, 32]⟩
abbrev S8x2048x8x16 : Shape := ⟨4, ![8, 2048, 8, 16]⟩
abbrev S2048x1x16 : Shape := ⟨3, ![2048, 1, 16]⟩
abbrev S1x2048x1x16 : Shape := ⟨4, ![1, 2048, 1, 16]⟩
abbrev S8x2048x8x128 : Shape := ⟨4, ![8, 2048, 8, 128]⟩
abbrev S8x2048x1x32 : Shape := ⟨4, ![8, 2048, 1, 32]⟩
abbrev S8x2048x1x16 : Shape := ⟨4, ![8, 2048, 1, 16]⟩
abbrev S8x256x8x128 : Shape := ⟨4, ![8, 256, 8, 128]⟩
abbrev S8x256x1x32 : Shape := ⟨4, ![8, 256, 1, 32]⟩
abbrev S8x256x8x32 : Shape := ⟨4, ![8, 256, 8, 32]⟩
abbrev S8x256x8x64 : Shape := ⟨4, ![8, 256, 8, 64]⟩
abbrev S8x256x8x96 : Shape := ⟨4, ![8, 256, 8, 96]⟩
abbrev S8x2304x8x96 : Shape := ⟨4, ![8, 2304, 8, 96]⟩
abbrev S8x2304x8x64 : Shape := ⟨4, ![8, 2304, 8, 64]⟩
abbrev S8x8x2048x2304 : Shape := ⟨4, ![8, 8, 2048, 2304]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x512 : Shape := ⟨3, ![8, 2048, 512]⟩

abbrev nBuf : Space → Nat
  | .hbm => 111
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x1024, .f32⟩
  | .hbm, ⟨2, _⟩ => ⟨S8x2048x32, .f32⟩
  | .hbm, ⟨3, _⟩ => ⟨S8x256x1024, .f32⟩
  | .hbm, ⟨4, _⟩ => ⟨S8x256x32, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x1, .f32⟩
  | .hbm, ⟨26, _⟩ => ⟨S1x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S8x2048x8x96, .f32⟩
  | .hbm, ⟨34, _⟩ => ⟨S8x2048x8x64, .f32⟩
  | .hbm, ⟨35, _⟩ => ⟨S8x2048x8x32, .f32⟩
  | .hbm, ⟨36, _⟩ => ⟨S8x2048x8x16, .f32⟩
  | .hbm, ⟨37, _⟩ => ⟨S8x2048x8x16, .f32⟩
  | .hbm, ⟨38, _⟩ => ⟨S2048x1x16, .f32⟩
  | .hbm, ⟨39, _⟩ => ⟨S2048x1x16, .f32⟩
  | .hbm, ⟨40, _⟩ => ⟨S1x2048x1x16, .f32⟩
  | .hbm, ⟨41, _⟩ => ⟨S8x2048x8x16, .f32⟩
  | .hbm, ⟨42, _⟩ => ⟨S8x2048x8x16, .f32⟩
  | .hbm, ⟨43, _⟩ => ⟨S1x2048x1x16, .f32⟩
  | .hbm, ⟨44, _⟩ => ⟨S8x2048x8x16, .f32⟩
  | .hbm, ⟨45, _⟩ => ⟨S8x2048x8x16, .f32⟩
  | .hbm, ⟨46, _⟩ => ⟨S8x2048x8x16, .f32⟩
  | .hbm, ⟨47, _⟩ => ⟨S1x2048x1x16, .f32⟩
  | .hbm, ⟨48, _⟩ => ⟨S8x2048x8x16, .f32⟩
  | .hbm, ⟨49, _⟩ => ⟨S8x2048x8x16, .f32⟩
  | .hbm, ⟨50, _⟩ => ⟨S1x2048x1x16, .f32⟩
  | .hbm, ⟨51, _⟩ => ⟨S8x2048x8x16, .f32⟩
  | .hbm, ⟨52, _⟩ => ⟨S8x2048x8x16, .f32⟩
  | .hbm, ⟨53, _⟩ => ⟨S8x2048x8x16, .f32⟩
  | .hbm, ⟨54, _⟩ => ⟨S8x2048x8x32, .f32⟩
  | .hbm, ⟨55, _⟩ => ⟨S8x2048x8x96, .f32⟩
  | .hbm, ⟨56, _⟩ => ⟨S8x2048x8x128, .f32⟩
  | .hbm, ⟨57, _⟩ => ⟨S8x2048x1x32, .f32⟩
  | .hbm, ⟨58, _⟩ => ⟨S8x2048x1x16, .f32⟩
  | .hbm, ⟨59, _⟩ => ⟨S8x2048x1x16, .f32⟩
  | .hbm, ⟨60, _⟩ => ⟨S2048x1x16, .f32⟩
  | .hbm, ⟨61, _⟩ => ⟨S2048x1x16, .f32⟩
  | .hbm, ⟨62, _⟩ => ⟨S1x2048x1x16, .f32⟩
  | .hbm, ⟨63, _⟩ => ⟨S8x2048x1x16, .f32⟩
  | .hbm, ⟨64, _⟩ => ⟨S8x2048x1x16, .f32⟩
  | .hbm, ⟨65, _⟩ => ⟨S1x2048x1x16, .f32⟩
  | .hbm, ⟨66, _⟩ => ⟨S8x2048x1x16, .f32⟩
  | .hbm, ⟨67, _⟩ => ⟨S8x2048x1x16, .f32⟩
  | .hbm, ⟨68, _⟩ => ⟨S8x2048x1x16, .f32⟩
  | .hbm, ⟨69, _⟩ => ⟨S1x2048x1x16, .f32⟩
  | .hbm, ⟨70, _⟩ => ⟨S8x2048x1x16, .f32⟩
  | .hbm, ⟨71, _⟩ => ⟨S8x2048x1x16, .f32⟩
  | .hbm, ⟨72, _⟩ => ⟨S1x2048x1x16, .f32⟩
  | .hbm, ⟨73, _⟩ => ⟨S8x2048x1x16, .f32⟩
  | .hbm, ⟨74, _⟩ => ⟨S8x2048x1x16, .f32⟩
  | .hbm, ⟨75, _⟩ => ⟨S8x2048x1x16, .f32⟩
  | .hbm, ⟨76, _⟩ => ⟨S8x2048x1x32, .f32⟩
  | .hbm, ⟨77, _⟩ => ⟨S8x2048x8x32, .f32⟩
  | .hbm, ⟨78, _⟩ => ⟨S8x2048x8x64, .f32⟩
  | .hbm, ⟨79, _⟩ => ⟨S8x2048x8x96, .f32⟩
  | .hbm, ⟨80, _⟩ => ⟨S8x2048x8x64, .f32⟩
  | .hbm, ⟨81, _⟩ => ⟨S8x256x8x128, .f32⟩
  | .hbm, ⟨82, _⟩ => ⟨S8x256x1x32, .f32⟩
  | .hbm, ⟨83, _⟩ => ⟨S8x256x8x32, .f32⟩
  | .hbm, ⟨84, _⟩ => ⟨S8x256x8x64, .f32⟩
  | .hbm, ⟨85, _⟩ => ⟨S8x256x8x96, .f32⟩
  | .hbm, ⟨86, _⟩ => ⟨S8x256x8x64, .f32⟩
  | .hbm, ⟨87, _⟩ => ⟨S8x2304x8x96, .f32⟩
  | .hbm, ⟨88, _⟩ => ⟨S8x2304x8x64, .f32⟩
  | .hbm, ⟨89, _⟩ => ⟨S8x8x2048x2304, .f32⟩
  | .hbm, ⟨90, _⟩ => ⟨S_, .f32⟩
  | .hbm, ⟨91, _⟩ => ⟨S8x8x2048x2304, .f32⟩
  | .hbm, ⟨92, _⟩ => ⟨S8x8x2048x2304, .f32⟩
  | .hbm, ⟨93, _⟩ => ⟨S_, .f32⟩
  | .hbm, ⟨94, _⟩ => ⟨S8x8x2048, .f32⟩
  | .hbm, ⟨95, _⟩ => ⟨S_, .f32⟩
  | .hbm, ⟨96, _⟩ => ⟨S8x8x2048, .f32⟩
  | .hbm, ⟨97, _⟩ => ⟨S8x8x2048, .f32⟩
  | .hbm, ⟨98, _⟩ => ⟨S8x8x2048x1, .f32⟩
  | .hbm, ⟨99, _⟩ => ⟨S8x8x2048x2304, .f32⟩
  | .hbm, ⟨100, _⟩ => ⟨S8x8x2048x2304, .f32⟩
  | .hbm, ⟨101, _⟩ => ⟨S8x8x2048x2304, .f32⟩
  | .hbm, ⟨102, _⟩ => ⟨S_, .f32⟩
  | .hbm, ⟨103, _⟩ => ⟨S8x8x2048, .f32⟩
  | .hbm, ⟨104, _⟩ => ⟨S8x8x2048x1, .f32⟩
  | .hbm, ⟨105, _⟩ => ⟨S8x8x2048x2304, .f32⟩
  | .hbm, ⟨106, _⟩ => ⟨S8x8x2048x2304, .f32⟩
  | .hbm, ⟨107, _⟩ => ⟨S8x8x64x2048, .f32⟩
  | .hbm, ⟨108, _⟩ => ⟨S8x2048x8x64, .f32⟩
  | .hbm, ⟨109, _⟩ => ⟨S8x2048x512, .f32⟩
  | .hbm, ⟨110, _⟩ => ⟨S8x2048x512, .bf16⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_cst_1 : Ref sig .tc := ⟨.hbm, 90, rfl⟩
abbrev main_v83 : Ref sig .tc := ⟨.hbm, 91, rfl⟩
abbrev main_v84 : Ref sig .tc := ⟨.hbm, 92, rfl⟩
abbrev main_cst_2 : Ref sig .tc := ⟨.hbm, 93, rfl⟩
abbrev main_v85 : Ref sig .tc := ⟨.hbm, 94, rfl⟩
abbrev main_cst_3 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_4 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S8x1x1024 : Shape := ⟨3, ![8, 1, 1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S8x1x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x1024 : Shape := ⟨3, ![8, 2048, 1024]⟩
abbrev S1024 : Shape := ⟨1, ![1024]⟩
abbrev S8x1x1024 : Shape := ⟨3, ![8, 1, 1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S8x1x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x5632, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S_, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel4.lean ====
abbrev S8x2048x512 : Shape := ⟨3, ![8, 2048, 512]⟩
abbrev S8x2048x4096 : Shape := ⟨3, ![8, 2048, 4096]⟩
abbrev S4x512x1024 : Shape := ⟨3, ![4, 512, 1024]⟩
abbrev S1024x1024 : Shape := ⟨2, ![1024, 1024]⟩
abbrev S8x2048x1024 : Shape := ⟨3, ![8, 2048, 1024]⟩
abbrev S8x1x1024 : Shape := ⟨3, ![8, 1, 1024]⟩
abbrev S1024 : Shape := ⟨1, ![1024]⟩
abbrev S1x1024 : Shape := ⟨2, ![1, 1024]⟩
abbrev S1x512x512 : Shape := ⟨3, ![1, 512, 512]⟩
abbrev S1x512x4096 : Shape := ⟨3, ![1, 512, 4096]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x4096, .f32⟩
  | .hbm, ⟨5, _⟩ => ⟨S4x512x1024, .f32⟩
  | .hbm, ⟨6, _⟩ => ⟨S1024x1024, .f32⟩
  | .hbm, ⟨7, _⟩ => ⟨S8x2048x1024, .f32⟩
  | .hbm, ⟨8, _⟩ => ⟨S8x1x1024, .f32⟩
  | .hbm, ⟨9, _⟩ => ⟨S1024, .f32⟩
  | .hbm, ⟨10, _⟩ => ⟨S8x2048x512, .bf16⟩
  | .hbm, ⟨11, _⟩ => ⟨S8x2048x512, .bf16⟩
  | .hbm, ⟨12, _⟩ => ⟨S8x2048x512, .bf16⟩
  | .hbm, ⟨13, _⟩ => ⟨S8x2048x512, .bf16⟩
  | .hbm, ⟨14, _⟩ => ⟨S8x2048x4096, .bf16⟩
  | .hbm, ⟨15, _⟩ => ⟨S4x512x1024, .bf16⟩
  | .hbm, ⟨16, _⟩ => ⟨S1024x1024, .bf16⟩
  | .hbm, ⟨17, _⟩ => ⟨S1x1024, .f32⟩
  | .hbm, ⟨18, _⟩ => ⟨S8x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x4096, .bf16⟩
  | .local _ .vmem, ⟨9, _⟩ => ⟨S1x512x4096, .bf16⟩
  | .local _ .vmem, ⟨10, _⟩ => ⟨S4x512x1024, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x2048x512 : Shape := ⟨3, ![8, 2048, 512]⟩
abbrev S8x2048x4096 : Shape := ⟨3, ![8, 2048, 4096]⟩
abbrev S4x512x1024 : Shape := ⟨3, ![4, 512, 1024]⟩
abbrev S1024x1024 : Shape := ⟨2, ![1024, 1024]⟩
abbrev S8x2048x1024 : Shape := ⟨3, ![8, 2048, 1024]⟩
abbrev S8x1x1024 : Shape := ⟨3, ![8, 1, 1024]⟩
abbrev S1024 : Shape := ⟨1, ![1024]⟩
abbrev S8x2048x1x512 : Shape := ⟨4, ![8, 2048, 1, 512]⟩
abbrev S8x2048x4x512 : Shape := ⟨4, ![8, 2048, 4, 512]⟩
abbrev S4x1024x8x2048 : Shape := ⟨4, ![4, 1024, 8, 2048]⟩
abbrev S8x2048x4x1024 : Shape := ⟨4, ![8, 2048, 4, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x4096, .f32⟩
  | .hbm, ⟨5, _⟩ => ⟨S4x512x1024, .f32⟩
  | .hbm, ⟨6, _⟩ => ⟨S1024x1024, .f32⟩
  | .hbm, ⟨7, _⟩ => ⟨S8x2048x1024, .f32⟩
  | .hbm, ⟨8, _⟩ => ⟨S8x1x1024, .f32⟩
  | .hbm, ⟨9, _⟩ => ⟨S1024, .f32⟩
  | .hbm, ⟨10, _⟩ => ⟨S8x2048x1x512, .f32⟩
  | .hbm, ⟨11, _⟩ => ⟨S8x2048x1x512, .f32⟩
  | .hbm, ⟨12, _⟩ => ⟨S8x2048x1x512, .f32⟩
  | .hbm, ⟨13, _⟩ => ⟨S8x2048x1x512, .f32⟩
  | .hbm, ⟨14, _⟩ => ⟨S8x2048x4x512, .f32⟩
  | .hbm, ⟨15, _⟩ => ⟨S4x1024x8x2048, .f32⟩
  | .hbm, ⟨16, _⟩ => ⟨S8x2048x4x1024, .f32⟩
  | .hbm, ⟨17, _⟩ => ⟨S8x2048x4x1024, .f32⟩
  | .hbm, ⟨18, _⟩ => ⟨S8x2048x4x1024, .f32⟩
  | .hbm, ⟨19, _⟩ => ⟨S8x2048x4x1024, .f32⟩
  | .hbm, ⟨20, _⟩ => ⟨S_, .f32⟩
  | .hbm, ⟨21, _⟩ => ⟨S8x2048x4x1024, .f32⟩
  | .hbm, ⟨22, _⟩ => ⟨S8x2048x4x1024, .f32⟩
  | .hbm, ⟨23, _⟩ => ⟨S_, .f32⟩
  | .hbm, ⟨24, _⟩ => ⟨S8x2048x4x1024, .f32⟩
  | .hbm, ⟨25, _⟩ => ⟨S8x2048x4x1024, .f32⟩
  | .hbm, ⟨26, _⟩ => ⟨S8x2048x4x1024, .f32⟩
  | .hbm, ⟨27, _⟩ => ⟨S_, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.Rows.lean ====
module

public import Idealize.ShloMosaic.Lib.Pointwise

@[expose] public section
noncomputable section

/-! One token's row of 1024 channels: normalisation and conditioning, the words the layer's steps share. -/

namespace Cert.Rows
open Idealize.ShloMosaic

/-- A row scaled to unit mean square, times a gain. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The normalised row, scaled and shifted by the conditioning. -/
def cond (x g sh sc : Fin 1024 → EReal) (k : Fin 1024) : EReal := rms x g k * (1 + sc k) + sh k

end Cert.Rows
end
-- ==== Proof.Ffn.lean ====
module

public import proofs.«01_k».proof.Defs
public import proofs.«01_k».proof.Proof.Rows
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section
set_option maxRecDepth 16384
noncomputable section

namespace Cert.Ffn
open Cert.Rows Idealize.ShloMosaic Idealize.ShloMosaic.TcCoe Cert.Kernel2Ideal Cert.Kernel2Ideal.Gen

/-- One hidden unit: the gate's `z · σ(z)` times the linear half. -/
def hid (a : Fin 1024 → EReal) (w : Fin 1024 → Fin 5632 → EReal) (h : Fin 2816) : EReal :=
  (∑ k, a k * w k ⟨h, by omega⟩) * Ideal.logistic (∑ k, a k * w k ⟨h, by omega⟩) * ∑ k, a k * w k ⟨2816 + h, by omega⟩

/-- The hidden layer projected back. -/
def down (a : Fin 1024 → EReal) (w : Fin 1024 → Fin 5632 → EReal) (u : Fin 2816 → Fin 1024 → EReal) (d : Fin 1024) : EReal :=
  ∑ h, hid a w h * u h d

/-- The whole feed-forward step on one token. -/
def ffn (x g sh sc : Fin 1024 → EReal) (w : Fin 1024 → Fin 5632 → EReal) (u : Fin 2816 → Fin 1024 → EReal)
    (g' mg : Fin 1024 → EReal) (d : Fin 1024) : EReal :=
  x d + mg d * rms (down (cond x g sh sc) w u) g' d

theorem pay3_apply (v0 : Vec Ideal S1x512x1024 .f32) (v2 : Vec Ideal S1x1024 .f32) (v16 v22 : Vec Ideal S1x1x1024 .f32) (r : Fin 512) (k : Fin 1024) :
    k0_pay3 v0 v2 v16 v22 (ix2 r k)
      = cond (fun j => v0 (ix3 0 r j)) (fun j => v2 (ix2 0 j)) (fun j => v22 (ix3 0 0 j)) (fun j => v16 (ix3 0 0 j)) k := by
  pointwise [k0_pay3, k0_pay2]
  rfl

theorem pay4_apply (v0 : Vec Ideal S1x512x1024 .f32) (v2 : Vec Ideal S1x1024 .f32) (v16 v22 : Vec Ideal S1x1x1024 .f32) (w u : Vec Ideal S1024x1408 .bf16) (r : Fin 512) (k : Fin 1408) :
    k0_pay4 v0 v2 v16 v22 w u (ix2 r k)
      = (∑ x, k0_pay3 v0 v2 v16 v22 (ix2 r x) * w (ix2 x k)) * Ideal.logistic (∑ x, k0_pay3 v0 v2 v16 v22 (ix2 r x) * w (ix2 x k))
        * ∑ x, k0_pay3 v0 v2 v16 v22 (ix2 r x) * u (ix2 x k) := by
  pointwise [k0_pay4]

/-- The block the body leaves, at one element: the step on the block's row. -/
theorem out_apply (x0 : Vec Ideal S1x512x1024 .f32) (x1 : Vec Ideal S1x1024 .f32) (x2 x3 : Vec Ideal S1x1x1024 .f32)
    (x4 : Vec Ideal S1024x5632 .bf16) (x5 : Vec Ideal S2816x1024 .bf16) (x6 : Vec Ideal S1x1024 .f32) (x7 : Vec Ideal S1x1x1024 .f32)
    (r : Fin 512) (d : Fin 1024) :
    out0_8 x0 x1 x2 x3 x4 x5 x6 x7 (ix3 0 r d)
      = ffn (fun k => x0 (ix3 0 r k)) (fun k => x1 (ix2 0 k)) (fun k => x2 (ix3 0 0 k)) (fun k => x3 (ix3 0 0 k))
          (fun k n => x4 (ix2 k n)) (fun n k => x5 (ix2 n k)) (fun k => x6 (ix2 0 k)) (fun k => x7 (ix3 0 0 k)) d := by
  have hd : ∀ d : Fin 1024, down (cond (fun k => x0 (ix3 0 r k)) (fun k => x1 (ix2 0 k)) (fun k => x2 (ix3 0 0 k)) (fun k => x3 (ix3 0 0 k)))
      (fun k n => x4 (ix2 k n)) (fun n k => x5 (ix2 n k)) d = _ := fun d => Fin.sum_univ_two_halves 1408 1408 rfl _
  unfold ffn rms
  simp only [hd]
  frame_out
  pointwise [k0_pay1, k0_pay5, k0_pay2]
  simp only [pay4_apply, pay3_apply]
  pointwise
  simp only [hid, ← Nat.add_assoc, Nat.reduceAdd]

/-- The result array as one function of the arguments' contents. -/
def G (a0 : Vec Ideal S8x2048x1024 .f32) (a1 : Vec Ideal S1024 .f32) (a2 a3 : Vec Ideal S8x1x1024 .f32)
    (a4 : Vec Ideal S1024x5632 .f32) (a5 : Vec Ideal S2816x1024 .f32) (a6 : Vec Ideal S1024 .f32) (a7 : Vec Ideal S8x1x1024 .f32) :
    Vec Ideal S8x2048x1024 .f32 := fun i =>
  ffn (fun k => a0 (ix3 (i 0) (i 1) k)) (fun k => a1 (ix1 k)) (fun k => a2 (ix3 (i 0) 0 k)) (fun k => a3 (ix3 (i 0) 0 k))
    (fun k n => a4 (ix2 k n)) (fun n k => a5 (ix2 n k)) (fun k => a6 (ix1 k)) (fun k => a7 (ix3 (i 0) 0 k)) (i 2)

theorem idx : ∀ t : Fin cfg0.N, win0_0.index t = ![t.val / 4, t.val % 4, 0] ∧ win0_1.index t = ![0, 0] ∧ win0_2.index t = ![t.val / 4, 0, 0]
    ∧ win0_3.index t = ![t.val / 4, 0, 0] ∧ win0_4.index t = ![0, 0] ∧ win0_5.index t = ![0, 0] ∧ win0_6.index t = ![0, 0]
    ∧ win0_7.index t = ![t.val / 4, 0, 0] ∧ win0_8.index t = ![t.val / 4, t.val % 4, 0] :=
  (by decide +kernel : ∀ t : Fin grid0.N, _)

variable (m : (ℓ : Loc nD τ sig) → Buf (Elt Ideal) ℓ)

theorem final (c : Dev nD) : (dats m 0 c).arrAt 8 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8]
  idx_vars y
  obtain rfl : y0 = 0 := Subsingleton.elim _ _
  rw [out_apply]
  obtain ⟨h0, h1, h2, h3, h4, h5, h6, h7, h8⟩ := idx t
  unfold G
  blk_point [iblk, V, idx t]

open Cert.Reference2Ideal.Read in
theorem ref_cond (x0 : Vec Ideal S8x2048x1024 .f32) (x1 : Vec Ideal S1024 .f32) (x2 x3 : Vec Ideal S8x1x1024 .f32) (b : Fin 8) (t : Fin 2048) (k : Fin 1024) :
    val_main_v18 (F := Ideal) x0 x1 x2 x3 (ix3 b t k)
      = cond (fun k => x0 (ix3 b t k)) (fun k => x1 (ix1 k)) (fun k => x2 (ix3 b 0 k)) (fun k => x3 (ix3 b 0 k)) k := by
  pointwise [val_main_v18, val_main_v17, val_main_v16, val_main_v15, val_main_v14, val_main_v13, val_main_cst_2, val_main_v12, val_main_v11, val_main_v10, val_main_v9,
    val_main_v8, val_main_v7, val_main_v6, val_main_v5, val_main_cst_1, val_main_v4, val_main_v3, val_main_cst_0, val_main_v2, val_main_v1, val_main_cst, val_main_v0]
  rfl

open Cert.Reference2Ideal.Read in
theorem ref_hid (x0 : Vec Ideal S8x2048x1024 .f32) (x1 : Vec Ideal S1024 .f32) (x2 x3 : Vec Ideal S8x1x1024 .f32) (x4 : Vec Ideal S1024x5632 .f32)
    (b : Fin 8) (t : Fin 2048) (h : Fin 2816) :
    val_main_v23 (F := Ideal) x0 x1 x2 x3 x4 (ix3 b t h)
      = hid (cond (fun k => x0 (ix3 b t k)) (fun k => x1 (ix1 k)) (fun k => x2 (ix3 b 0 k)) (fun k => x3 (ix3 b 0 k)))
          (fun k n => x4 (ix2 k n)) h := by
  pointwise [val_main_v23, val_main_v22, val_main_call0_v5, val_main_call0_v4, val_main_call0_v3, val_main_call0_v2, val_main_call0_v1, val_main_call0_v0,
    val_main_call0_cst, val_main_call0_cst_0, val_main_v21, val_main_v20, val_main_v19]
  simp only [ref_cond]
  rfl

open Cert.Reference2Ideal.Read in
theorem ref_eq (x0 : Vec Ideal S8x2048x1024 .f32) (x1 : Vec Ideal S1024 .f32) (x2 x3 : Vec Ideal S8x1x1024 .f32) (x4 : Vec Ideal S1024x5632 .f32)
    (x5 : Vec Ideal S2816x1024 .f32) (x6 : Vec Ideal S1024 .f32) (x7 : Vec Ideal S8x1x1024 .f32) :
    val_main_v40 (F := Ideal) x0 x1 x2 x3 x4 x5 x6 x7 = G x0 x1 x2 x3 x4 x5 x6 x7 := by
  funext i
  idx_vars i
  pointwise [val_main_v40, val_main_v39, val_main_v38, val_main_v37, val_main_v36, val_main_v35, val_main_v34, val_main_v33, val_main_v32, val_main_v31,
    val_main_v30, val_main_cst_5, val_main_v29, val_main_v28, val_main_cst_4, val_main_v27, val_main_v26, val_main_cst_3, val_main_v25, val_main_v24]
  simp only [ref_hid]
  rfl

/-- The feed-forward call and its plain form leave the same array. -/
theorem algebraic [hKernel2Ideal : Cert.Kernel2Ideal.Facts] [hReference2Ideal : Cert.Reference2Ideal.Facts] :
    Cert.algebraic_Kernel2Ideal_Reference2Ideal := by
  intro m g m' g' _ hm
  refine ⟨fun c => (dats m 0 c).arrAt 8 cfg0.N, Cert.Kernel2Ideal.Value.run_blocks m g,
    (θ_run _ _ _).mono (fun r h c => ?_) (Cert.Reference2Ideal.Value.run m' g')⟩
  obtain ⟨h0, h1, h2, h3, h4, h5, h6, h7⟩ := hm c
  refine ⟨(h c).1.trans ((Cert.Reference2Ideal.Read.val_main_v40_eq m' c).trans ?_), (h c).2⟩
  rw [h0, h1, h2, h3, h4, h5, h6, h7, ref_eq]
  exact (final m c).symm

end Cert.Ffn
end
-- ==== Proof.Merge.lean ====
module

public import proofs.«01_k».proof.Defs
public import proofs.«01_k».proof.Proof.Rows
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit

@[expose] public section
set_option maxRecDepth 16384
noncomputable section

namespace Cert.Merge
open Cert.Rows Idealize.ShloMosaic Idealize.ShloMosaic.TcCoe Cert.Kernel4Ideal Cert.Kernel4Ideal.Gen

/-- One branch's contribution to a channel: its projection under its gate. -/
def brn (y : Fin 512 → EReal) (gate : EReal) (w : Fin 4 → Fin 512 → Fin 1024 → EReal) (i : Fin 4) (k : Fin 1024) : EReal :=
  Ideal.logistic gate * ∑ j, y j * w i j k

/-- The four gated branches added up. -/
def mix (y0 y1 y2 y3 : Fin 512 → EReal) (gate : Fin 4096 → EReal) (w : Fin 4 → Fin 512 → Fin 1024 → EReal) (k : Fin 1024) : EReal :=
  brn y0 (gate ⟨k, by omega⟩) w 0 k + brn y1 (gate ⟨1024 + k, by omega⟩) w 1 k + brn y2 (gate ⟨2048 + k, by omega⟩) w 2 k
    + brn y3 (gate ⟨3072 + k, by omega⟩) w 3 k

/-- The merge on one token. -/
def merge (y0 y1 y2 y3 : Fin 512 → EReal) (gate : Fin 4096 → EReal) (w : Fin 4 → Fin 512 → Fin 1024 → EReal)
    (u : Fin 1024 → Fin 1024 → EReal) (x mg g : Fin 1024 → EReal) (d : Fin 1024) : EReal :=
  x d + mg d * rms (fun n => ∑ k, mix y0 y1 y2 y3 gate w k * u k n) g d

theorem out_apply (x0 x1 x2 x3 : Vec Ideal S1x512x512 .bf16) (x4 : Vec Ideal S1x512x4096 .bf16) (x5 : Vec Ideal S4x512x1024 .bf16)
    (x6 : Vec Ideal S1024x1024 .bf16) (x7 : Vec Ideal S1x512x1024 .f32) (x8 : Vec Ideal S1x1x1024 .f32) (x9 : Vec Ideal S1x1024 .f32)
    (r : Fin 512) (d : Fin 1024) :
    out0_10 x0 x1 x2 x3 x4 x5 x6 x7 x8 x9 (ix3 0 r d)
      = merge (fun k => x0 (ix3 0 r k)) (fun k => x1 (ix3 0 r k)) (fun k => x2 (ix3 0 r k)) (fun k => x3 (ix3 0 r k))
          (fun k => x4 (ix3 0 r k)) (fun i j k => x5 (ix3 i j k)) (fun k n => x6 (ix2 k n)) (fun k => x7 (ix3 0 r k))
          (fun k => x8 (ix3 0 0 k)) (fun k => x9 (ix2 0 k)) d := by
  frame_out
  pointwise [k0_pay1, k0_pay5, k0_pay6, k0_pay7, k0_pay8, k0_pay2, k0_pay3, k0_pay4]
  rfl

/-- The result array as one function of the arguments' contents. -/
def G (a0 a1 a2 a3 : Vec Ideal S8x2048x512 .f32) (a4 : Vec Ideal S8x2048x4096 .f32) (a5 : Vec Ideal S4x512x1024 .f32)
    (a6 : Vec Ideal S1024x1024 .f32) (a7 : Vec Ideal S8x2048x1024 .f32) (a8 : Vec Ideal S8x1x1024 .f32) (a9 : Vec Ideal S1024 .f32) :
    Vec Ideal S8x2048x1024 .f32 := fun i =>
  merge (fun k => a0 (ix3 (i 0) (i 1) k)) (fun k => a1 (ix3 (i 0) (i 1) k)) (fun k => a2 (ix3 (i 0) (i 1) k)) (fun k => a3 (ix3 (i 0) (i 1) k))
    (fun k => a4 (ix3 (i 0) (i 1) k)) (fun i j k => a5 (ix3 i j k)) (fun k n => a6 (ix2 k n)) (fun k => a7 (ix3 (i 0) (i 1) k))
    (fun k => a8 (ix3 (i 0) 0 k)) (fun k => a9 (ix1 k)) (i 2)

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![0, 0, 0] ∧ win0_6.index t = ![0, 0] ∧ win0_7.index t = ![t.val / 4, t.val % 4, 0]
    ∧ win0_8.index t = ![t.val / 4, 0, 0] ∧ win0_9.index t = ![0, 0] ∧ win0_10.index t = ![t.val / 4, t.val % 4, 0] :=
  (by decide +kernel : ∀ t : Fin grid0.N, _)

variable (m : (ℓ : Loc nD τ sig) → Buf (Elt Ideal) ℓ)

theorem final (c : Dev nD) : (dats m 0 c).arrAt 10 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  idx_vars y
  obtain rfl : y0 = 0 := Subsingleton.elim _ _
  rw [out_apply]
  obtain ⟨h0, h1, h2, h3, h4, h5, h6, h7, h8, h9, h10⟩ := idx t
  unfold G
  blk_point [iblk, V, idx t]

open Cert.Reference4Ideal.Read in
theorem ref_mix (x0 x1 x2 x3 : Vec Ideal S8x2048x512 .f32) (x4 : Vec Ideal S8x2048x4096 .f32) (x5 : Vec Ideal S4x512x1024 .f32)
    (b : Fin 8) (t : Fin 2048) (k : Fin 1024) :
    val_main_v15 (F := Ideal) x0 x1 x2 x3 x4 x5 (ix3 b t k)
      = mix (fun k => x0 (ix3 b t k)) (fun k => x1 (ix3 b t k)) (fun k => x2 (ix3 b t k)) (fun k => x3 (ix3 b t k))
          (fun k => x4 (ix3 b t k)) (fun i j k => x5 (ix3 i j k)) k := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst_1, val_main_cst_0, val_main_cst]
  rw [Fin.sum_univ_four]
  simp only [mix, brn, mul_comm (x5 _)]
  simp
  rfl

open Cert.Reference4Ideal.Read in
theorem ref_eq (x0 x1 x2 x3 : Vec Ideal S8x2048x512 .f32) (x4 : Vec Ideal S8x2048x4096 .f32) (x5 : Vec Ideal S4x512x1024 .f32)
    (x6 : Vec Ideal S1024x1024 .f32) (x7 : Vec Ideal S8x2048x1024 .f32) (x8 : Vec Ideal S8x1x1024 .f32) (x9 : Vec Ideal S1024 .f32) :
    val_main_v32 (F := Ideal) x0 x1 x2 x3 x4 x5 x6 x7 x8 x9 = G x0 x1 x2 x3 x4 x5 x6 x7 x8 x9 := by
  funext i
  idx_vars i
  pointwise [val_main_v32, val_main_v31, val_main_v30, val_main_v29, val_main_v28, val_main_v27, val_main_v26, val_main_v25, val_main_v24, val_main_v23,
    val_main_v22, val_main_cst_4, val_main_v21, val_main_v20, val_main_cst_3, val_main_v19, val_main_v18, val_main_cst_2, val_main_v17, val_main_v16]
  simp only [ref_mix]
  rfl

/-- The merge call and its plain form leave the same array. -/
theorem algebraic [hKernel4Ideal : Cert.Kernel4Ideal.Facts] [hReference4Ideal : Cert.Reference4Ideal.Facts] :
    Cert.algebraic_Kernel4Ideal_Reference4Ideal := by
  intro m g m' g' _ hm
  refine ⟨fun c => (dats m 0 c).arrAt 10 cfg0.N, Cert.Kernel4Ideal.Value.run_blocks m g,
    (θ_run _ _ _).mono (fun r h c => ?_) (Cert.Reference4Ideal.Value.run m' g')⟩
  obtain ⟨h0, h1, h2, h3, h4, h5, h6, h7, h8, h9⟩ := hm c
  refine ⟨(h c).1.trans ((Cert.Reference4Ideal.Read.val_main_v32_eq m' c).trans ?_), (h c).2⟩
  rw [h0, h1, h2, h3, h4, h5, h6, h7, h8, h9, ref_eq]
  exact (final m c).symm

end Cert.Merge
end
-- ==== Proof.MlaBlk.lean ====
module

public import proofs.«01_k».proof.Proof.Gen.KernelIdeal.Value
public import Idealize.ShloMosaic.Lib.Pointwise
public import Idealize.ShloMosaic.Lib.Pipeline.ValueKit
public import Idealize.ShloMosaic.Lib.Claim

@[expose] public section
set_option maxRecDepth 16384
noncomputable section

/-! Which part of each array a grid point sees: batch `t / 4`, and of the queries the 512 rows from `512 * (t % 4)`. -/

namespace Cert.Mla
open Idealize.ShloMosaic Idealize.ShloMosaic.TcCoe Cert.KernelIdeal Cert.KernelIdeal.Gen

theorem idx : ∀ t : Fin cfg0.N, win0_0.index t = ![t.val / 4, t.val % 4, 0] ∧ win0_1.index t = ![t.val / 4, t.val % 4, 0] ∧ win0_2.index t = ![t.val % 4, 0]
    ∧ win0_3.index t = ![t.val % 4, 0] ∧ win0_4.index t = ![t.val / 4, 0, 0] ∧ win0_5.index t = ![t.val / 4, 0, 0] ∧ win0_6.index t = ![t.val / 4, 0, 0]
    ∧ win0_7.index t = ![0, 0] ∧ win0_8.index t = ![0, 0] ∧ win0_9.index t = ![t.val / 4, 0, 0] ∧ win0_10.index t = ![t.val / 4, 0, 0]
    ∧ win0_11.index t = ![t.val / 4, 0, 0] ∧ win0_12.index t = ![t.val / 4, 0, 0] ∧ win0_13.index t = ![t.val / 4, t.val % 4, 0] :=
  (by decide +kernel : ∀ t : Fin grid0.N, _)

theorem point_lt (t : Fin cfg0.N) : t.val < 32 := t.isLt

theorem at3 {n : Fin 3 → Nat} (i j : ∀ a, Fin (n a)) (h0 : (i 0).val = (j 0).val) (h1 : (i 1).val = (j 1).val) (h2 : (i 2).val = (j 2).val) : i = j := by
  funext a
  apply Fin.ext
  match a with
  | 0 => exact h0
  | 1 => exact h1
  | 2 => exact h2

theorem at2 {n : Fin 2 → Nat} (i j : ∀ a, Fin (n a)) (h0 : (i 0).val = (j 0).val) (h1 : (i 1).val = (j 1).val) : i = j := by
  funext a
  apply Fin.ext
  match a with
  | 0 => exact h0
  | 1 => exact h1

variable (m : (ℓ : Loc nD τ sig) → Buf (Elt Ideal) ℓ)

theorem blk0 (c : Dev nD) (t : Fin cfg0.N) (b : Fin 8) (q : Fin 2048) (r : Fin 512) (e : Fin 1024) (hb : b.val = t.val / 4) (hq : q.val = 512 * (t.val % 4) + r.val) :
    iblk m c 0 t (ix3 0 r e) = V m c main_v37 (ix3 b q e) := by
  have h0 : win0_0.index t = ![t.val / 4, t.val % 4, 0] := (idx t).1
  have hq' : t.val % 4 * 512 + r.val = q.val := by omega
  have k0 : ((win0_0.blk t).view.emb (ix3 0 r e) 0).val = t.val / 4 := by
    blk_simp [h0]
    first | done | rfl
  have k1 : ((win0_0.blk t).view.emb (ix3 0 r e) 1).val = t.val % 4 * 512 + r.val := by
    blk_simp [h0]
  have k2 : ((win0_0.blk t).view.emb (ix3 0 r e) 2).val = e.val := by
    blk_simp [h0]
  have ke : (win0_0.blk t).view.emb (ix3 0 r e) = (ix3 b q e : S8x2048x1024.Idx) := at3 _ _ (k0.trans hb.symm) (k1.trans hq') (k2)
  have h : ∀ A : Buf (Elt Ideal) ((c : Thread nD τ).loc main_v37), View.read (Elt Ideal) ((cfg0.win 0).blk t).view A (ix3 0 r e) = A ((win0_0.blk t).view.emb (ix3 0 r e)) := fun A => rfl
  have h' : ∀ A : Buf (Elt Ideal) ((c : Thread nD τ).loc main_v37), View.read (Elt Ideal) ((cfg0.win 0).blk t).view A (ix3 0 r e) = A (ix3 b q e) := fun A => (h A).trans (congrArg A ke)
  exact h' (V m c main_v37)

theorem blk1 (c : Dev nD) (t : Fin cfg0.N) (b : Fin 8) (q : Fin 2048) (r : Fin 512) (e : Fin 1024) (hb : b.val = t.val / 4) (hq : q.val = 512 * (t.val % 4) + r.val) :
    iblk m c 1 t (ix3 0 r e) = V m c main_v45 (ix3 b q e) := by
  have h0 : win0_1.index t = ![t.val / 4, t.val % 4, 0] := (idx t).2.1
  have hq' : t.val % 4 * 512 + r.val = q.val := by omega
  have k0 : ((win0_1.blk t).view.emb (ix3 0 r e) 0).val = t.val / 4 := by
    blk_simp [h0]
    first | done | rfl
  have k1 : ((win0_1.blk t).view.emb (ix3 0 r e) 1).val = t.val % 4 * 512 + r.val := by
    blk_simp [h0]
  have k2 : ((win0_1.blk t).view.emb (ix3 0 r e) 2).val = e.val := by
    blk_simp [h0]
  have ke : (win0_1.blk t).view.emb (ix3 0 r e) = (ix3 b q e : S8x2048x1024.Idx) := at3 _ _ (k0.trans hb.symm) (k1.trans hq') (k2)
  have h : ∀ A : Buf (Elt Ideal) ((c : Thread nD τ).loc main_v45), View.read (Elt Ideal) ((cfg0.win 1).blk t).view A (ix3 0 r e) = A ((win0_1.blk t).view.emb (ix3 0 r e)) := fun A => rfl
  have h' : ∀ A : Buf (Elt Ideal) ((c : Thread nD τ).loc main_v45), View.read (Elt Ideal) ((cfg0.win 1).blk t).view A (ix3 0 r e) = A (ix3 b q e) := fun A => (h A).trans (congrArg A ke)
  exact h' (V m c main_v45)

theorem blk2 (c : Dev nD) (t : Fin cfg0.N) (q : Fin 2048) (r : Fin 512) (e : Fin 128) (hq : q.val = 512 * (t.val % 4) + r.val) :
    iblk m c 2 t (ix2 r e) = V m c main_v31 (ix2 q e) := by
  have h0 : win0_2.index t = ![t.val % 4, 0] := (idx t).2.2.1
  have hq' : t.val % 4 * 512 + r.val = q.val := by omega
  have k0 : ((win0_2.blk t).view.emb (ix2 r e) 0).val = t.val % 4 * 512 + r.val := by
    blk_simp [h0]
  have k1 : ((win0_2.blk t).view.emb (ix2 r e) 1).val = e.val := by
    blk_simp [h0]
  have ke : (win0_2.blk t).view.emb (ix2 r e) = (ix2 q e : S2048x128.Idx) := at2 _ _ (k0.trans hq') (k1)
  have h : ∀ A : Buf (Elt Ideal) ((c : Thread nD τ).loc main_v31), View.read (Elt Ideal) ((cfg0.win 2).blk t).view A (ix2 r e) = A ((win0_2.blk t).view.emb (ix2 r e)) := fun A => rfl
  have h' : ∀ A : Buf (Elt Ideal) ((c : Thread nD τ).loc main_v31), View.read (Elt Ideal) ((cfg0.win 2).blk t).view A (ix2 r e) = A (ix2 q e) := fun A => (h A).trans (congrArg A ke)
  exact h' (V m c main_v31)

theorem blk3 (c : Dev nD) (t : Fin cfg0.N) (q : Fin 2048) (r : Fin 512) (e : Fin 128) (hq : q.val = 512 * (t.val % 4) + r.val) :
    iblk m c 3 t (ix2 r e) = V m c main_v32 (ix2 q e) := by
  have h0 : win0_3.index t = ![t.val % 4, 0] := (idx t).2.2.2.1
  have hq' : t.val % 4 * 512 + r.val = q.val := by omega
  have k0 : ((win0_3.blk t).view.emb (ix2 r e) 0).val = t.val % 4 * 512 + r.val := by
    blk_simp [h0]
  have k1 : ((win0_3.blk t).view.emb (ix2 r e) 1).val = e.val := by
    blk_simp [h0]
  have ke : (win0_3.blk t).view.emb (ix2 r e) = (ix2 q e : S2048x128.Idx) := at2 _ _ (k0.trans hq') (k1)
  have h : ∀ A : Buf (Elt Ideal) ((c : Thread nD τ).loc main_v32), View.read (Elt Ideal) ((cfg0.win 3).blk t).view A (ix2 r e) = A ((win0_3.blk t).view.emb (ix2 r e)) := fun A => rfl
  have h' : ∀ A : Buf (Elt Ideal) ((c : Thread nD τ).loc main_v32), View.read (Elt Ideal) ((cfg0.win 3).blk t).view A (ix2 r e) = A (ix2 q e) := fun A => (h A).trans (congrArg A ke)
  exact h' (V m c main_v32)

theorem blk4 (c : Dev nD) (t : Fin cfg0.N) (b : Fin 8) (r : Fin 2048) (e : Fin 1024) (hb : b.val = t.val / 4) :
    iblk m c 4 t (ix3 0 r e) = V m c main_v54 (ix3 b r e) := by
  have h0 : win0_4.index t = ![t.val / 4, 0, 0] := (idx t).2.2.2.2.1
  have k0 : ((win0_4.blk t).view.emb (ix3 0 r e) 0).val = t.val / 4 := by
    blk_simp [h0]
    first | done | rfl
  have k1 : ((win0_4.blk t).view.emb (ix3 0 r e) 1).val = r.val := by
    blk_simp [h0]
  have k2 : ((win0_4.blk t).view.emb (ix3 0 r e) 2).val = e.val := by
    blk_simp [h0]
  have ke : (win0_4.blk t).view.emb (ix3 0 r e) = (ix3 b r e : S8x2048x1024.Idx) := at3 _ _ (k0.trans hb.symm) (k1) (k2)
  have h : ∀ A : Buf (Elt Ideal) ((c : Thread nD τ).loc main_v54), View.read (Elt Ideal) ((cfg0.win 4).blk t).view A (ix3 0 r e) = A ((win0_4.blk t).view.emb (ix3 0 r e)) := fun A => rfl
  have h' : ∀ A : Buf (Elt Ideal) ((c : Thread nD τ).loc main_v54), View.read (Elt Ideal) ((cfg0.win 4).blk t).view A (ix3 0 r e) = A (ix3 b r e) := fun A => (h A).trans (congrArg A ke)
  exact h' (V m c main_v54)

theorem blk5 (c : Dev nD) (t : Fin cfg0.N) (b : Fin 8) (r : Fin 2048) (e : Fin 128) (hb : b.val = t.val / 4) :
    iblk m c 5 t (ix3 0 r e) = V m c main_v67 (ix3 b r e) := by
  have h0 : win0_5.index t = ![t.val / 4, 0, 0] := (idx t).2.2.2.2.2.1
  have k0 : ((win0_5.blk t).view.emb (ix3 0 r e) 0).val = t.val / 4 := by
    blk_simp [h0]
    first | done | rfl
  have k1 : ((win0_5.blk t).view.emb (ix3 0 r e) 1).val = r.val := by
    blk_simp [h0]
  have k2 : ((win0_5.blk t).view.emb (ix3 0 r e) 2).val = e.val := by
    blk_simp [h0]
  have ke : (win0_5.blk t).view.emb (ix3 0 r e) = (ix3 b r e : S8x2048x128.Idx) := at3 _ _ (k0.trans hb.symm) (k1) (k2)
  have h : ∀ A : Buf (Elt Ideal) ((c : Thread nD τ).loc main_v67), View.read (Elt Ideal) ((cfg0.win 5).blk t).view A (ix3 0 r e) = A ((win0_5.blk t).view.emb (ix3 0 r e)) := fun A => rfl
  have h' : ∀ A : Buf (Elt Ideal) ((c : Thread nD τ).loc main_v67), View.read (Elt Ideal) ((cfg0.win 5).blk t).view A (ix3 0 r e) = A (ix3 b r e) := fun A => (h A).trans (congrArg A ke)
  exact h' (V m c main_v67)

theorem blk6 (c : Dev nD) (t : Fin cfg0.N) (b : Fin 8) (r : Fin 2048) (e : Fin 128) (hb : b.val = t.val / 4) :
    iblk m c 6 t (ix3 0 r e) = V m c main_v69 (ix3 b r e) := by
  have h0 : win0_6.index t = ![t.val / 4, 0, 0] := (idx t).2.2.2.2.2.2.1
  have k0 : ((win0_6.blk t).view.emb (ix3 0 r e) 0).val = t.val / 4 := by
    blk_simp [h0]
    first | done | rfl
  have k1 : ((win0_6.blk t).view.emb (ix3 0 r e) 1).val = r.val := by
    blk_simp [h0]
  have k2 : ((win0_6.blk t).view.emb (ix3 0 r e) 2).val = e.val := by
    blk_simp [h0]
  have ke : (win0_6.blk t).view.emb (ix3 0 r e) = (ix3 b r e : S8x2048x128.Idx) := at3 _ _ (k0.trans hb.symm) (k1) (k2)
  have h : ∀ A : Buf (Elt Ideal) ((c : Thread nD τ).loc main_v69), View.read (Elt Ideal) ((cfg0.win 6).blk t).view A (ix3 0 r e) = A ((win0_6.blk t).view.emb (ix3 0 r e)) := fun A => rfl
  have h' : ∀ A : Buf (Elt Ideal) ((c : Thread nD τ).loc main_v69), View.read (Elt Ideal) ((cfg0.win 6).blk t).view A (ix3 0 r e) = A (ix3 b r e) := fun A => (h A).trans (congrArg A ke)
  exact h' (V m c main_v69)

theorem blk7 (c : Dev nD) (t : Fin cfg0.N) (r : Fin 2048) (e : Fin 128) :
    iblk m c 7 t (ix2 r e) = V m c main_v33 (ix2 r e) := by
  have h0 : win0_7.index t = ![0, 0] := (idx t).2.2.2.2.2.2.2.1
  have k0 : ((win0_7.blk t).view.emb (ix2 r e) 0).val = r.val := by
    blk_simp [h0]
  have k1 : ((win0_7.blk t).view.emb (ix2 r e) 1).val = e.val := by
    blk_simp [h0]
  have ke : (win0_7.blk t).view.emb (ix2 r e) = (ix2 r e : S2048x128.Idx) := at2 _ _ (k0) (k1)
  have h : ∀ A : Buf (Elt Ideal) ((c : Thread nD τ).loc main_v33), View.read (Elt Ideal) ((cfg0.win 7).blk t).view A (ix2 r e) = A ((win0_7.blk t).view.emb (ix2 r e)) := fun A => rfl
  have h' : ∀ A : Buf (Elt Ideal) ((c : Thread nD τ).loc main_v33), View.read (Elt Ideal) ((cfg0.win 7).blk t).view A (ix2 r e) = A (ix2 r e) := fun A => (h A).trans (congrArg A ke)
  exact h' (V m c main_v33)

theorem blk8 (c : Dev nD) (t : Fin cfg0.N) (r : Fin 2048) (e : Fin 128) :
    iblk m c 8 t (ix2 r e) = V m c main_v32 (ix2 r e) := by
  have h0 : win0_8.index t = ![0, 0] := (idx t).2.2.2.2.2.2.2.2.1
  have k0 : ((win0_8.blk t).view.emb (ix2 r e) 0).val = r.val := by
    blk_simp [h0]
  have k1 : ((win0_8.blk t).view.emb (ix2 r e) 1).val = e.val := by
    blk_simp [h0]
  have ke : (win0_8.blk t).view.emb (ix2 r e) = (ix2 r e : S2048x128.Idx) := at2 _ _ (k0) (k1)
  have h : ∀ A : Buf (Elt Ideal) ((c : Thread nD τ).loc main_v32), View.read (Elt Ideal) ((cfg0.win 8).blk t).view A (ix2 r e) = A ((win0_8.blk t).view.emb (ix2 r e)) := fun A => rfl
  have h' : ∀ A : Buf (Elt Ideal) ((c : Thread nD τ).loc main_v32), View.read (Elt Ideal) ((cfg0.win 8).blk t).view A (ix2 r e) = A (ix2 r e) := fun A => (h A).trans (congrArg A ke)
  exact h' (V m c main_v32)

theorem blk9 (c : Dev nD) (t : Fin cfg0.N) (b : Fin 8) (r : Fin 2048) (e : Fin 512) (hb : b.val = t.val / 4) :
    iblk m c 9 t (ix3 0 r e) = V m c main_v57 (ix3 b r e) := by
  have h0 : win0_9.index t = ![t.val / 4, 0, 0] := (idx t).2.2.2.2.2.2.2.2.2.1
  have k0 : ((win0_9.blk t).view.emb (ix3 0 r e) 0).val = t.val / 4 := by
    blk_simp [h0]
    first | done | rfl
  have k1 : ((win0_9.blk t).view.emb (ix3 0 r e) 1).val = r.val := by
    blk_simp [h0]
  have k2 : ((win0_9.blk t).view.emb (ix3 0 r e) 2).val = e.val := by
    blk_simp [h0]
  have ke : (win0_9.blk t).view.emb (ix3 0 r e) = (ix3 b r e : S8x2048x512.Idx) := at3 _ _ (k0.trans hb.symm) (k1) (k2)
  have h : ∀ A : Buf (Elt Ideal) ((c : Thread nD τ).loc main_v57), View.read (Elt Ideal) ((cfg0.win 9).blk t).view A (ix3 0 r e) = A ((win0_9.blk t).view.emb (ix3 0 r e)) := fun A => rfl
  have h' : ∀ A : Buf (Elt Ideal) ((c : Thread nD τ).loc main_v57), View.read (Elt Ideal) ((cfg0.win 9).blk t).view A (ix3 0 r e) = A (ix3 b r e) := fun A => (h A).trans (congrArg A ke)
  exact h' (V m c main_v57)

theorem blk10 (c : Dev nD) (t : Fin cfg0.N) (b : Fin 8) (r : Fin 256) (e : Fin 1024) (hb : b.val = t.val / 4) :
    iblk m c 10 t (ix3 0 r e) = V m c main_v62 (ix3 b r e) := by
  have h0 : win0_10.index t = ![t.val / 4, 0, 0] := (idx t).2.2.2.2.2.2.2.2.2.2.1
  have k0 : ((win0_10.blk t).view.emb (ix3 0 r e) 0).val = t.val / 4 := by
    blk_simp [h0]
    first | done | rfl
  have k1 : ((win0_10.blk t).view.emb (ix3 0 r e) 1).val = r.val := by
    blk_simp [h0]
  have k2 : ((win0_10.blk t).view.emb (ix3 0 r e) 2).val = e.val := by
    blk_simp [h0]
  have ke : (win0_10.blk t).view.emb (ix3 0 r e) = (ix3 b r e : S8x256x1024.Idx) := at3 _ _ (k0.trans hb.symm) (k1) (k2)
  have h : ∀ A : Buf (Elt Ideal) ((c : Thread nD τ).loc main_v62), View.read (Elt Ideal) ((cfg0.win 10).blk t).view A (ix3 0 r e) = A ((win0_10.blk t).view.emb (ix3 0 r e)) := fun A => rfl
  have h' : ∀ A : Buf (Elt Ideal) ((c : Thread nD τ).loc main_v62), View.read (Elt Ideal) ((cfg0.win 10).blk t).view A (ix3 0 r e) = A (ix3 b r e) := fun A => (h A).trans (congrArg A ke)
  exact h' (V m c main_v62)

theorem blk11 (c : Dev nD) (t : Fin cfg0.N) (b : Fin 8) (r : Fin 256) (e : Fin 128) (hb : b.val = t.val / 4) :
    iblk m c 11 t (ix3 0 r e) = V m c main_v71 (ix3 b r e) := by
  have h0 : win0_11.index t = ![t.val / 4, 0, 0] := (idx t).2.2.2.2.2.2.2.2.2.2.2.1
  have k0 : ((win0_11.blk t).view.emb (ix3 0 r e) 0).val = t.val / 4 := by
    blk_simp [h0]
    first | done | rfl
  have k1 : ((win0_11.blk t).view.emb (ix3 0 r e) 1).val = r.val := by
    blk_simp [h0]
  have k2 : ((win0_11.blk t).view.emb (ix3 0 r e) 2).val = e.val := by
    blk_simp [h0]
  have ke : (win0_11.blk t).view.emb (ix3 0 r e) = (ix3 b r e : S8x256x128.Idx) := at3 _ _ (k0.trans hb.symm) (k1) (k2)
  have h : ∀ A : Buf (Elt Ideal) ((c : Thread nD τ).loc main_v71), View.read (Elt Ideal) ((cfg0.win 11).blk t).view A (ix3 0 r e) = A ((win0_11.blk t).view.emb (ix3 0 r e)) := fun A => rfl
  have h' : ∀ A : Buf (Elt Ideal) ((c : Thread nD τ).loc main_v71), View.read (Elt Ideal) ((cfg0.win 11).blk t).view A (ix3 0 r e) = A (ix3 b r e) := fun A => (h A).trans (congrArg A ke)
  exact h' (V m c main_v71)

theorem blk12 (c : Dev nD) (t : Fin cfg0.N) (b : Fin 8) (r : Fin 256) (e : Fin 512) (hb : b.val = t.val / 4) :
    iblk m c 12 t (ix3 0 r e) = V m c main_v65 (ix3 b r e) := by
  have h0 : win0_12.index t = ![t.val / 4, 0, 0] := (idx t).2.2.2.2.2.2.2.2.2.2.2.2.1
  have k0 : ((win0_12.blk t).view.emb (ix3 0 r e) 0).val = t.val / 4 := by
    blk_simp [h0]
    first | done | rfl
  have k1 : ((win0_12.blk t).view.emb (ix3 0 r e) 1).val = r.val := by
    blk_simp [h0]
  have k2 : ((win0_12.blk t).view.emb (ix3 0 r e) 2).val = e.val := by
    blk_simp [h0]
  have ke : (win0_12.blk t).view.emb (ix3 0 r e) = (ix3 b r e : S8x256x512.Idx) := at3 _ _ (k0.trans hb.symm) (k1) (k2)
  have h : ∀ A : Buf (Elt Ideal) ((c : Thread nD τ).loc main_v65), View.read (Elt Ideal) ((cfg0.win 12).blk t).view A (ix3 0 r e) = A ((win0_12.blk t).view.emb (ix3 0 r e)) := fun A => rfl
  have h' : ∀ A : Buf (Elt Ideal) ((c : Thread nD τ).loc main_v65), View.read (Elt Ideal) ((cfg0.win 12).blk t).view A (ix3 0 r e) = A (ix3 b r e) := fun A => (h A).trans (congrArg A ke)
  exact h' (V m c main_v65)

end Cert.Mla
-- ==== Proof.MlaBody.lean ====
module

public import proofs.«01_k».proof.Defs
public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section
set_option maxRecDepth 16384
noncomputable section

namespace Cert.Mla
open Idealize.ShloMosaic Idealize.ShloMosaic.TcCoe Cert.KernelIdeal Cert.KernelIdeal.Gen

/-- A rotation table times the scale of the scores. -/
def tab (c : Vec Ideal S512x128 .f32) : FVec Ideal S512x128 .f32 :=
  mulf (shapeCast S512x128 c shapeCasts_S512x128_S512x128) (broadcast S512x128 (Named.named κ "q_scale" 0x3E16C740#32))

/-- One head's queries, rotated: the plain lanes on the one table and the swapped lanes on the other. -/
def qry (x y : Vec Ideal S1x512x128 .bf16) (c s : FVec Ideal S512x128 .f32) : FVec Ideal S512x128 .bf16 :=
  truncf .bf16 (addf (mulf (extf .f32 (shapeCast S512x128 x shapeCasts_S1x512x128_S512x128) bitsLt_bf16_f32) c)
    (mulf (extf .f32 (shapeCast S512x128 y shapeCasts_S1x512x128_S512x128) bitsLt_bf16_f32) s)) bitsLt_bf16_f32

/-- The scores of one block of keys. -/
def sco (q : FVec Ideal S512x128 .bf16) (k : Vec Ideal S1x256x128 .bf16) : FVec Ideal S256x512 .f32 :=
  matmul dot_S256x128_S512x128_S256x512_1_1_0_0_n_n none (shapeCast S256x128 k shapeCasts_S1x256x128_S256x128 : FVec Ideal S256x128 .bf16) q
    (constant S256x512 .f32 0x00000000#32)

/-- The running maximum after one more block. -/
def mnew (m : FVec Ideal S1x512 .f32) (s : FVec Ideal S256x512 .f32) : FVec Ideal S1x512 .f32 :=
  maximumf m (shapeCast S1x512 (multiReduction .maximumf [0] S512 s 0xFF800000#32 reduces_S256x512_S512 (.inl rfl) rfl) shapeCasts_S512_S1x512)

/-- The block's weights against a maximum. -/
def wts (s : FVec Ideal S256x512 .f32) (m : FVec Ideal S1x512 .f32) : FVec Ideal S256x512 .bf16 :=
  truncf .bf16 (exp2 (subf s (broadcastTo S256x512 m broadcasts_S1x512_S256x512))) bitsLt_bf16_f32

/-- The block's values under its weights. -/
def mix (v : Vec Ideal S1x80x256 .bf16) (p : FVec Ideal S256x512 .bf16) : FVec Ideal S80x512 .f32 :=
  matmul dot_S80x256_S256x512_S80x512_1_0_0_1_n_n none (shapeCast S80x256 v shapeCasts_S1x80x256_S80x256 : FVec Ideal S80x256 .bf16) p
    (constant S80x512 .f32 0x00000000#32)

/-- The accumulator brought to the new maximum, with one more block. -/
def anew (a : FVec Ideal S80x512 .f32) (m m' : FVec Ideal S1x512 .f32) (d : FVec Ideal S80x512 .f32) : FVec Ideal S80x512 .f32 :=
  addf (mulf a (broadcastTo S80x512 (exp2 (subf m m')) broadcasts_S1x512_S80x512)) d

/-- The running maximum after `n` blocks. -/
def mrun (q : FVec Ideal S512x128 .bf16) (K : ℕ → Vec Ideal S1x256x128 .bf16) : ℕ → FVec Ideal S1x512 .f32
  | 0 => broadcast S1x512 (Scalar.ofBits .f32 0xF149F2CA#32)
  | n + 1 => mnew (mrun q K n) (sco q (K n))

/-- The accumulator after `n` blocks. -/
def arun (q : FVec Ideal S512x128 .bf16) (K : ℕ → Vec Ideal S1x256x128 .bf16) (V : ℕ → Vec Ideal S1x80x256 .bf16) : ℕ → FVec Ideal S80x512 .f32
  | 0 => broadcast S80x512 (Scalar.ofBits .f32 0x00000000#32)
  | n + 1 => anew (arun q K V n) (mrun q K n) (mrun q K (n + 1)) (mix (V n) (wts (sco q (K n)) (mrun q K (n + 1))))

/-- One head's values over its weights' sum. -/
def nrm (a : FVec Ideal S80x512 .f32) : FVec Ideal S64x512 .f32 :=
  mulf (extractStridedSlice S64x512 ![0, 0] a slices_S80x512_o0_0_S64x512)
    (broadcastTo S64x512 (divf (broadcast S1x512 (Scalar.ofBits .f32 0x3F800000#32)) (extractStridedSlice S1x512 ![64, 0] a slices_S80x512_o64_0_S1x512)) broadcasts_S1x512_S64x512)

/-- Two heads side by side. -/
def pack (a b : FVec Ideal S80x512 .f32) : FVec Ideal S1x512x128 .bf16 :=
  shapeCast S1x512x128 (truncf .bf16 (transpose S512x128 [1, 0] (concatenate S128x512 0 [⟨S64x512, nrm a⟩, ⟨S64x512, nrm b⟩] concatenates_S64x512_S64x512_S128x512_d0)
    transposes_S128x512_p1_0_S512x128) bitsLt_bf16_f32) shapeCasts_S512x128_S1x512x128

/-- Rows `b …` of head `h` of the kept keys. -/
def kb (x : Vec Ideal S8x2304x128 .bf16) (h b : ℕ) : Vec Ideal S1x256x128 .bf16 := fun i =>
  x (ix3 ⟨h % 8, by omega⟩ ⟨(b + (i 1).val) % 2304, by omega⟩ (i 2))

/-- Columns `b …` of head `h` of the kept values. -/
def vb (x : Vec Ideal S8x80x2304 .bf16) (h b : ℕ) : Vec Ideal S1x80x256 .bf16 := fun i =>
  x (ix3 ⟨h % 8, by omega⟩ (i 1) ⟨(b + (i 2).val) % 2304, by omega⟩)

/-- Lanes `b …` of the queries. -/
def qb (x : Vec Ideal S1x512x1024 .bf16) (b : ℕ) : Vec Ideal S1x512x128 .bf16 := fun i =>
  x (ix3 0 (i 1) ⟨(b + (i 2).val) % 1024, by omega⟩)

theorem ld_kb (x : Vec Ideal S8x2304x128 .bf16) (h b : ℕ) (inb) :
    View.ld x (Rect.unit ![h, b, 0] ![1, 256, 128] inb) = kb x h b := by
  funext i
  have h0 : h + 1 ≤ 8 := inb 0
  have h1 : b + 256 ≤ 2304 := inb 1
  idx_vars i
  unfold kb
  rw [View.ld_apply]
  refine congrArg x (funext fun a => Fin.ext ?_)
  rw [Rect.idx_unit_val]
  match a with
  | 0 => simp [ix3] <;> omega
  | 1 => simp [ix3] <;> omega
  | 2 => simp [ix3] <;> omega

theorem ld_vb (x : Vec Ideal S8x80x2304 .bf16) (h b : ℕ) (inb) :
    View.ld x (Rect.unit ![h, 0, b] ![1, 80, 256] inb) = vb x h b := by
  funext i
  have h0 : h + 1 ≤ 8 := inb 0
  have h1 : b + 256 ≤ 2304 := inb 2
  idx_vars i
  unfold vb
  rw [View.ld_apply]
  refine congrArg x (funext fun a => Fin.ext ?_)
  rw [Rect.idx_unit_val]
  match a with
  | 0 => simp [ix3] <;> omega
  | 1 => simp [ix3] <;> omega
  | 2 => simp [ix3] <;> omega

theorem ld_qb (x : Vec Ideal S1x512x1024 .bf16) (b : ℕ) (inb) :
    View.ld x (Rect.unit ![0, 0, b] ![1, 512, 128] inb) = qb x b := by
  funext i
  have h1 : b + 128 ≤ 1024 := inb 2
  idx_vars i
  unfold qb
  rw [View.ld_apply]
  refine congrArg x (funext fun a => Fin.ext ?_)
  rw [Rect.idx_unit_val]
  match a with
  | 0 => simp [ix3] <;> omega
  | 1 => simp [ix3] <;> omega
  | 2 => simp [ix3] <;> omega

/-- Head `h`'s accumulator after the nine blocks. -/
def head (x0 x1 : Vec Ideal S1x512x1024 .bf16) (x2 x3 : Vec Ideal S512x128 .f32) (kc : Vec Ideal S8x2304x128 .bf16)
    (vt : Vec Ideal S8x80x2304 .bf16) (h : ℕ) : FVec Ideal S80x512 .f32 :=
  arun (qry (qb x0 (128 * h)) (qb x1 (128 * h)) (tab x2) (tab x3)) (fun n => kb kc h (256 * n)) (fun n => vb vt h (256 * n)) 9

/-- The block of outputs: two heads to each 128 lanes. -/
def outV (x0 x1 : Vec Ideal S1x512x1024 .bf16) (x2 x3 : Vec Ideal S512x128 .f32) (kc : Vec Ideal S8x2304x128 .bf16)
    (vt : Vec Ideal S8x80x2304 .bf16) : Vec Ideal S1x512x512 .bf16 :=
  View.canon
    [⟨Rect.unit ![0, 0, 384] ![1, 512, 128] inb_S1x512x512_S1x512x128_0_0_384, pack (head x0 x1 x2 x3 kc vt 6) (head x0 x1 x2 x3 kc vt 7)⟩,
     ⟨Rect.unit ![0, 0, 256] ![1, 512, 128] inb_S1x512x512_S1x512x128_0_0_256, pack (head x0 x1 x2 x3 kc vt 4) (head x0 x1 x2 x3 kc vt 5)⟩,
     ⟨Rect.unit ![0, 0, 128] ![1, 512, 128] inb_S1x512x512_S1x512x128_0_0_128, pack (head x0 x1 x2 x3 kc vt 2) (head x0 x1 x2 x3 kc vt 3)⟩,
     ⟨Rect.unit ![0, 0, 0] ![1, 512, 128] inb_S1x512x512_S1x512x128_0_0_0, pack (head x0 x1 x2 x3 kc vt 0) (head x0 x1 x2 x3 kc vt 1)⟩]

end Cert.Mla
-- ==== Proof.MlaElem.lean ====
module

public import proofs.«01_k».proof.Proof.MlaBody

@[expose] public section
set_option maxRecDepth 16384
noncomputable section

namespace Cert.Mla
open Idealize.ShloMosaic Idealize.ShloMosaic.TcCoe Cert.KernelIdeal Cert.KernelIdeal.Gen

/-! ## The pieces of the body at one element -/

/-- The scale of the scores, in the base of the weights' powers. -/
def qs : ℝ := (Real.log 2)⁻¹ * (3424635 / 33554432)

theorem tab_apply (c : Vec Ideal S512x128 .f32) (r : Fin 512) (l : Fin 128) : tab c (ix2 r l) = c (ix2 r l) * (qs : EReal) := by
  pointwise [tab]
  rfl

theorem qry_apply (x y : Vec Ideal S1x512x128 .bf16) (c s : FVec Ideal S512x128 .f32) (r : Fin 512) (l : Fin 128) :
    qry x y c s (ix2 r l) = x (ix3 0 r l) * c (ix2 r l) + y (ix3 0 r l) * s (ix2 r l) := by
  pointwise [qry]

theorem sco_apply (q : FVec Ideal S512x128 .bf16) (k : Vec Ideal S1x256x128 .bf16) (j : Fin 256) (r : Fin 512) :
    sco q k (ix2 j r) = ∑ l : Fin 128, k (ix3 0 j l) * q (ix2 r l) := by
  pointwise [sco]

theorem mnew_apply (m : FVec Ideal S1x512 .f32) (s : FVec Ideal S256x512 .f32) (r : Fin 512) :
    mnew m s (ix2 0 r) = max (m (ix2 0 r)) (Finset.fold max ⊥ (fun x => s (ix2 x r)) Finset.univ) := by
  have h : (Ideal.ofBits .f32 0xFF800000#32 : EReal) = ⊥ := by simp [Ideal.ofBits, Ideal.ieee]
  pointwise [mnew]
  rw [h]

theorem wts_apply (s : FVec Ideal S256x512 .f32) (m : FVec Ideal S1x512 .f32) (j : Fin 256) (r : Fin 512) :
    wts s m (ix2 j r) = Ideal.exp2 (s (ix2 j r) - m (ix2 0 r)) := by
  pointwise [wts]
  rfl

theorem mix_apply (v : Vec Ideal S1x80x256 .bf16) (p : FVec Ideal S256x512 .bf16) (d : Fin 80) (r : Fin 512) :
    mix v p (ix2 d r) = ∑ j : Fin 256, v (ix3 0 d j) * p (ix2 j r) := by
  pointwise [mix]

theorem anew_apply (a : FVec Ideal S80x512 .f32) (m m' : FVec Ideal S1x512 .f32) (e : FVec Ideal S80x512 .f32) (d : Fin 80) (r : Fin 512) :
    anew a m m' e (ix2 d r) = a (ix2 d r) * Ideal.exp2 (m (ix2 0 r) - m' (ix2 0 r)) + e (ix2 d r) := by
  pointwise [anew]
  rfl

theorem mrun_zero_apply (q : FVec Ideal S512x128 .bf16) (K : ℕ → Vec Ideal S1x256x128 .bf16) (r : Fin 512) :
    ∃ μ : ℝ, mrun q K 0 (ix2 0 r) = (μ : EReal) := by
  refine ⟨-(13234890 * 2 ^ 76), ?_⟩
  pointwise [mrun]
  simp [Ideal.ofBits, Ideal.ieee, -EReal.coe_mul]

theorem arun_zero_apply (q : FVec Ideal S512x128 .bf16) (K : ℕ → Vec Ideal S1x256x128 .bf16) (V : ℕ → Vec Ideal S1x80x256 .bf16) (d : Fin 80) (r : Fin 512) :
    arun q K V 0 (ix2 d r) = 0 := by
  pointwise [arun]

theorem pack_apply (a b : FVec Ideal S80x512 .f32) (r : Fin 512) (l : Fin 128) :
    pack a b (ix3 0 r l) = if h : l.val < 64 then a (ix2 ⟨l, by omega⟩ r) * Ideal.div 1 (a (ix2 64 r))
      else b (ix2 ⟨l - 64, by omega⟩ r) * Ideal.div 1 (b (ix2 64 r)) := by
  pointwise [pack, nrm]

/-! ## Sums and maxima of reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A maximum of reals over a nonempty range is a real. -/
theorem fold_max_real {ι : Type} [Fintype ι] [Nonempty ι] (f : ι → ℝ) : ∃ μ : ℝ, Finset.fold max (⊥ : EReal) (fun i => (f i : EReal)) Finset.univ = (μ : EReal) := by
  classical
  have h : ∀ s : Finset ι, Finset.fold max (⊥ : EReal) (fun i => (f i : EReal)) s = ⊥ ∧ s = ∅ ∨ ∃ μ : ℝ, Finset.fold max (⊥ : EReal) (fun i => (f i : EReal)) s = (μ : EReal) := by
    intro s
    induction s using Finset.induction_on with
    | empty => exact Or.inl ⟨rfl, rfl⟩
    | insert a s ha ih =>
      refine Or.inr ?_
      rw [Finset.fold_insert ha]
      rcases ih with ⟨h, _⟩ | ⟨μ, h⟩
      · exact ⟨f a, by rw [h]; simp⟩
      · exact ⟨max (f a) μ, by rw [h]; exact (EReal.coe_strictMono.monotone.map_max).symm⟩
  rcases h Finset.univ with ⟨_, h⟩ | h
  · exact absurd h (Finset.univ_nonempty.ne_empty)
  · exact h

/-! ## The running maximum and sums, over reals -/

/-- Whatever the maximum is, the accumulator after `n` blocks holds the weighted sums against it. -/
theorem run_apply (q : FVec Ideal S512x128 .bf16) (K : ℕ → Vec Ideal S1x256x128 .bf16) (V : ℕ → Vec Ideal S1x80x256 .bf16) (r : Fin 512)
    (s : ℕ → Fin 256 → ℝ) (v : ℕ → Fin 80 → Fin 256 → ℝ)
    (hs : ∀ n j, sco q (K n) (ix2 j r) = (s n j : EReal)) (hv : ∀ n d j, V n (ix3 0 d j) = (v n d j : EReal)) (n : ℕ) :
    ∃ μ : ℝ, mrun q K n (ix2 0 r) = (μ : EReal)
      ∧ ∀ d, arun q K V n (ix2 d r) = ((∑ i ∈ Finset.range n, ∑ j, v i d j * (2 : ℝ) ^ (s i j - μ) : ℝ) : EReal) := by
  induction n with
  | zero =>
    obtain ⟨μ, h⟩ := mrun_zero_apply q K r
    exact ⟨μ, h, fun d => by rw [arun_zero_apply]; simp⟩
  | succ n ih =>
    obtain ⟨μ, hm, ha⟩ := ih
    obtain ⟨ν, hν⟩ := fold_max_real (s n)
    have h2 : mrun q K (n + 1) (ix2 0 r) = ((max μ ν : ℝ) : EReal) := by
      rw [mrun, mnew_apply, hm]
      simp only [hs]
      rw [hν]
      exact (EReal.coe_strictMono.monotone.map_max).symm
    refine ⟨max μ ν, h2, fun d => ?_⟩
    rw [arun, anew_apply, ha, hm, h2, mix_apply]
    simp only [wts_apply, hs, hv, h2, ← EReal.coe_sub, Ideal.exp2_coe, Real.rpow_eq_pow, ← EReal.coe_mul, coe_sum, ← EReal.coe_add]
    congr 1
    rw [Finset.sum_range_succ, Finset.sum_mul]
    congr 1
    refine Finset.sum_congr rfl fun i _ => ?_
    rw [Finset.sum_mul]
    refine Finset.sum_congr rfl fun j _ => ?_
    rw [mul_assoc, ← Real.rpow_add (by norm_num)]
    ring_nf

/-- A head's output: the values' mean under the powers of two of the scores. -/
theorem mean_apply (q : FVec Ideal S512x128 .bf16) (K : ℕ → Vec Ideal S1x256x128 .bf16) (V : ℕ → Vec Ideal S1x80x256 .bf16) (r : Fin 512)
    (s : ℕ → Fin 256 → ℝ) (v : ℕ → Fin 80 → Fin 256 → ℝ)
    (hs : ∀ n j, sco q (K n) (ix2 j r) = (s n j : EReal)) (hv : ∀ n d j, V n (ix3 0 d j) = (v n d j : EReal))
    (h1 : ∀ n j, v n 64 j = 1) (d : Fin 80) :
    arun q K V 9 (ix2 d r) * Ideal.div 1 (arun q K V 9 (ix2 64 r))
      = (((∑ i ∈ Finset.range 9, ∑ j, v i d j * (2 : ℝ) ^ s i j) / (∑ i ∈ Finset.range 9, ∑ j, (2 : ℝ) ^ s i j) : ℝ) : EReal) := by
  obtain ⟨μ, -, ha⟩ := run_apply q K V r s v hs hv 9
  have e : ∀ w : ℕ → Fin 256 → ℝ, (∑ i ∈ Finset.range 9, ∑ j, w i j * (2 : ℝ) ^ (s i j - μ))
      = (∑ i ∈ Finset.range 9, ∑ j, w i j * (2 : ℝ) ^ s i j) * (2 : ℝ) ^ (-μ) := fun w => by
    rw [Finset.sum_mul]
    refine Finset.sum_congr rfl fun i _ => ?_
    rw [Finset.sum_mul]
    refine Finset.sum_congr rfl fun j _ => ?_
    rw [mul_assoc, ← Real.rpow_add (by norm_num), sub_eq_add_neg]
  have p : 0 < ∑ i ∈ Finset.range 9, ∑ j : Fin 256, (2 : ℝ) ^ s i j :=
    Finset.sum_pos (fun i _ => Finset.sum_pos (fun j _ => Real.rpow_pos_of_pos (by norm_num) _) ⟨0, Finset.mem_univ _⟩) ⟨0, by simp⟩
  have hp : (0 : ℝ) < (2 : ℝ) ^ (-μ) := Real.rpow_pos_of_pos (by norm_num) _
  rw [ha, ha, e, e]
  simp only [h1, one_mul]
  rw [Ideal.div, if_neg (by rw [← EReal.coe_zero, EReal.coe_eq_coe_iff]; positivity), one_mul, ← EReal.coe_inv, ← EReal.coe_mul]
  congr 1
  field_simp

end Cert.Mla
-- ==== Proof.MlaHeld.lean ====
module

public import proofs.«01_k».proof.Proof.MlaBody

@[expose] public section
set_option maxRecDepth 16384
noncomputable section

namespace Cert.Mla
open Idealize.ShloMosaic Idealize.ShloMosaic.TcCoe Cert.KernelIdeal Cert.KernelIdeal.Gen

/-- The kept keys: a head's plain lanes plus the shared rotated ones; the latent rows first and the context's after them. -/
def keyV (x4 : Vec Ideal S1x2048x1024 .bf16) (x5 x6 : Vec Ideal S1x2048x128 .bf16) (x7 x8 : Vec Ideal S2048x128 .f32)
    (x10 : Vec Ideal S1x256x1024 .bf16) (x11 : Vec Ideal S1x256x128 .bf16) (h : Fin 8) (k : Fin 2304) (l : Fin 128) : EReal :=
  if hk : k.val < 2048 then
    x4 (ix3 0 ⟨k, hk⟩ ⟨128 * h + l, by omega⟩) + (x5 (ix3 0 ⟨k, hk⟩ l) * x7 (ix2 ⟨k, hk⟩ l) + x6 (ix3 0 ⟨k, hk⟩ l) * x8 (ix2 ⟨k, hk⟩ l))
  else x10 (ix3 0 ⟨k - 2048, by omega⟩ ⟨128 * h + l, by omega⟩) + x11 (ix3 0 ⟨k - 2048, by omega⟩ l)

/-- The kept values, turned; the rows from 64 on are ones. -/
def valV (x9 : Vec Ideal S1x2048x512 .bf16) (x12 : Vec Ideal S1x256x512 .bf16) (h : Fin 8) (d : Fin 80) (k : Fin 2304) : EReal :=
  if hd : d.val < 64 then
    if hk : k.val < 2048 then x9 (ix3 0 ⟨k, hk⟩ ⟨64 * h + d, by omega⟩) else x12 (ix3 0 ⟨k - 2048, by omega⟩ ⟨64 * h + d, by omega⟩)
  else 1

theorem key_lat (x4 : Vec Ideal S1x2048x1024 .bf16) (x5 x6 : Vec Ideal S1x2048x128 .bf16) (x7 x8 : Vec Ideal S2048x128 .f32)
    (x10 : Vec Ideal S1x256x1024 .bf16) (x11 : Vec Ideal S1x256x128 .bf16) (h : Fin 8) (k : Fin 2304) (l : Fin 128)
    (k' : Fin 2048) (l' : Fin 128) (e : Fin 1024) (e0 : e.val = 128 * h + l') (e1 : k.val = k') (e2 : l.val = l') :
    x4 (ix3 0 k' e) + (x5 (ix3 0 k' l') * x7 (ix2 k' l') + x6 (ix3 0 k' l') * x8 (ix2 k' l')) = keyV x4 x5 x6 x7 x8 x10 x11 h k l := by
  obtain rfl : e = ⟨128 * h + l', by have := h.isLt; have := l'.isLt; clear e0; omega⟩ := Fin.ext e0
  obtain rfl : l = l' := Fin.ext e2
  obtain rfl : k = ⟨k', Nat.lt_trans k'.isLt (by decide)⟩ := Fin.ext e1
  unfold keyV
  rw [dif_pos k'.isLt]

theorem key_ctx (x4 : Vec Ideal S1x2048x1024 .bf16) (x5 x6 : Vec Ideal S1x2048x128 .bf16) (x7 x8 : Vec Ideal S2048x128 .f32)
    (x10 : Vec Ideal S1x256x1024 .bf16) (x11 : Vec Ideal S1x256x128 .bf16) (h : Fin 8) (k : Fin 2304) (l : Fin 128)
    (k' : Fin 256) (l' : Fin 128) (e : Fin 1024) (e0 : e.val = 128 * h + l') (e1 : k.val = 2048 + k') (e2 : l.val = l') :
    x10 (ix3 0 k' e) + x11 (ix3 0 k' l') = keyV x4 x5 x6 x7 x8 x10 x11 h k l := by
  obtain rfl : e = ⟨128 * h + l', by have := h.isLt; have := l'.isLt; clear e0; omega⟩ := Fin.ext e0
  obtain rfl : l = l' := Fin.ext e2
  obtain rfl : k = ⟨2048 + k', Nat.add_lt_add_left k'.isLt 2048⟩ := Fin.ext e1
  unfold keyV
  rw [dif_neg (by simp)]
  simp

theorem val_lat (x9 : Vec Ideal S1x2048x512 .bf16) (x12 : Vec Ideal S1x256x512 .bf16) (h : Fin 8) (d : Fin 80) (k : Fin 2304)
    (d' : Fin 64) (k' : Fin 2048) (e : Fin 512) (e0 : e.val = 64 * h + d') (e1 : d.val = d') (e2 : k.val = k') :
    x9 (ix3 0 k' e) = valV x9 x12 h d k := by
  obtain rfl : d = ⟨d', Nat.lt_trans d'.isLt (by decide)⟩ := Fin.ext e1
  obtain rfl : k = ⟨k', Nat.lt_trans k'.isLt (by decide)⟩ := Fin.ext e2
  obtain rfl : e = ⟨64 * h + d', by have := h.isLt; have := d'.isLt; clear e0; omega⟩ := Fin.ext e0
  unfold valV
  rw [dif_pos d'.isLt, dif_pos k'.isLt]

theorem val_ctx (x9 : Vec Ideal S1x2048x512 .bf16) (x12 : Vec Ideal S1x256x512 .bf16) (h : Fin 8) (d : Fin 80) (k : Fin 2304)
    (d' : Fin 64) (k' : Fin 256) (e : Fin 512) (e0 : e.val = 64 * h + d') (e1 : d.val = d') (e2 : k.val = 2048 + k') :
    x12 (ix3 0 k' e) = valV x9 x12 h d k := by
  obtain rfl : d = ⟨d', Nat.lt_trans d'.isLt (by decide)⟩ := Fin.ext e1
  obtain rfl : k = ⟨2048 + k', Nat.add_lt_add_left k'.isLt 2048⟩ := Fin.ext e2
  obtain rfl : e = ⟨64 * h + d', by have := h.isLt; have := d'.isLt; clear e0; omega⟩ := Fin.ext e0
  unfold valV
  rw [dif_pos d'.isLt, dif_neg (by simp)]
  simp

theorem val_one (x9 : Vec Ideal S1x2048x512 .bf16) (x12 : Vec Ideal S1x256x512 .bf16) (h : Fin 8) (d : Fin 80) (k : Fin 2304) (hd : 64 ≤ d.val) :
    1 = valV x9 x12 h d k := by
  unfold valV
  rw [dif_neg (by omega)]

theorem held0 (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x2048x1024 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x2048x512 .bf16) (harg11 : arg11.IsWhole) (arg12 : Memref sig .tc .vmem S1x256x1024 .bf16) (harg12 : arg12.IsWhole) (arg13 : Memref sig .tc .vmem S1x256x128 .bf16) (harg13 : arg13.IsWhole) (arg14 : Memref sig .tc .vmem S1x256x512 .bf16) (harg14 : arg14.IsWhole) (arg15 : Memref sig .tc .vmem S1x512x512 .bf16) (harg15 : arg15.IsWhole) (arg16 : Memref sig .tc .vmem S8x2304x128 .bf16) (harg16 : arg16.IsWhole) (arg17 : Memref sig .tc .vmem S8x80x2304 .bf16) (harg17 : arg17.IsWhole) (hc0 : cond0_0 i)
    (x0 : Vec Ideal S1x512x1024 .bf16) (x1 : Vec Ideal S1x512x1024 .bf16) (x2 : Vec Ideal S512x128 .f32) (x3 : Vec Ideal S512x128 .f32) (x4 : Vec Ideal S1x2048x1024 .bf16) (x5 : Vec Ideal S1x2048x128 .bf16) (x6 : Vec Ideal S1x2048x128 .bf16) (x7 : Vec Ideal S2048x128 .f32) (x8 : Vec Ideal S2048x128 .f32) (x9 : Vec Ideal S1x2048x512 .bf16) (x10 : Vec Ideal S1x256x1024 .bf16) (x11 : Vec Ideal S1x256x128 .bf16) (x12 : Vec Ideal S1x256x512 .bf16) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = fun i => keyV x4 x5 x6 x7 x8 x10 x11 (i 0) (i 1) (i 2) := by
  funext y
  frame_out
  canon_tiles x h using (View.cover_of_tiledBy _ ![1, 256, 128] (by sl_kernel_rfl) y)
  clear harg2 harg3 harg4 harg5 harg6 harg7 harg8 harg9 harg10 harg11 harg12 harg13 harg14 harg15 harg16 harg17
  all_goals (idx_vars x; pointwise)
  all_goals first
    | exact key_lat x4 x5 x6 x7 x8 x10 x11 _ _ _ _ _ _ (by simp only; omega) h1 h2
    | exact key_ctx x4 x5 x6 x7 x8 x10 x11 _ _ _ _ _ _ (by simp only; omega) h1 h2

theorem held1 (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x2048x1024 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x2048x512 .bf16) (harg11 : arg11.IsWhole) (arg12 : Memref sig .tc .vmem S1x256x1024 .bf16) (harg12 : arg12.IsWhole) (arg13 : Memref sig .tc .vmem S1x256x128 .bf16) (harg13 : arg13.IsWhole) (arg14 : Memref sig .tc .vmem S1x256x512 .bf16) (harg14 : arg14.IsWhole) (arg15 : Memref sig .tc .vmem S1x512x512 .bf16) (harg15 : arg15.IsWhole) (arg16 : Memref sig .tc .vmem S8x2304x128 .bf16) (harg16 : arg16.IsWhole) (arg17 : Memref sig .tc .vmem S8x80x2304 .bf16) (harg17 : arg17.IsWhole) (hc0 : cond0_0 i)
    (x0 : Vec Ideal S1x512x1024 .bf16) (x1 : Vec Ideal S1x512x1024 .bf16) (x2 : Vec Ideal S512x128 .f32) (x3 : Vec Ideal S512x128 .f32) (x4 : Vec Ideal S1x2048x1024 .bf16) (x5 : Vec Ideal S1x2048x128 .bf16) (x6 : Vec Ideal S1x2048x128 .bf16) (x7 : Vec Ideal S2048x128 .f32) (x8 : Vec Ideal S2048x128 .f32) (x9 : Vec Ideal S1x2048x512 .bf16) (x10 : Vec Ideal S1x256x1024 .bf16) (x11 : Vec Ideal S1x256x128 .bf16) (x12 : Vec Ideal S1x256x512 .bf16) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = fun i => valV x9 x12 (i 0) (i 1) (i 2) := by
  funext y
  frame_out
  canon_tiles x h using (View.cover_of_tiledBy _ ![1, 16, 256] (by sl_kernel_rfl) y)
  clear harg2 harg3 harg4 harg5 harg6 harg7 harg8 harg9 harg10 harg11 harg12 harg13 harg14 harg15 harg16 harg17
  all_goals (idx_vars x; pointwise [k0_pay55])
  all_goals first
    | exact val_lat x9 x12 _ _ _ _ _ _ (by simp only; omega) h1 h2
    | exact val_ctx x9 x12 _ _ _ _ _ _ (by simp only; omega) h1 h2
    | exact val_one x9 x12 _ _ _ (by omega)

end Cert.Mla
-- ==== Proof.MlaSpec.lean ====
module

public import Idealize.ShloMosaic.Lib.Pointwise

@[expose] public section
noncomputable section

/-! The attention as real arithmetic: what both programs compute on finite inputs. `a0` is the query, `a1` and `a2` the latent keys and values and
the rotary keys, `a3` and `a4` those of the context; `C` and `S` are the cosines and sines of the positions' angles. -/

namespace Cert.Mla

/-- The mean of `v` under the weights `exp σ`. -/
def att (σ v : Fin 2304 → ℝ) : ℝ := (∑ k, v k * Real.exp (σ k)) / ∑ k, Real.exp (σ k)

/-- A head's 96 lanes with the last 32 rotated, padded with zeros to 128. -/
def rot (x : Fin 96 → ℝ) (C S : Fin 16 → ℝ) (l : Fin 128) : ℝ :=
  if h1 : l.val < 64 then x ⟨l, by omega⟩
  else if h2 : l.val - 64 < 16 then
    x ⟨64 + (l - 64), by omega⟩ * C ⟨l - 64, h2⟩ - x ⟨64 + (16 + (l - 64)), by omega⟩ * S ⟨l - 64, h2⟩
  else if h3 : l.val - 64 - 16 < 16 then
    x ⟨64 + (l - 64 - 16), by omega⟩ * S ⟨l - 64 - 16, h3⟩ + x ⟨64 + (16 + (l - 64 - 16)), by omega⟩ * C ⟨l - 64 - 16, h3⟩
  else 0

/-- The query's 96 lanes of head `h`. -/
def qrow (y : Fin 768 → ℝ) (h : Fin 8) (l : Fin 96) : ℝ := y ⟨h * 96 + l, by omega⟩

/-- A key's 96 lanes of head `h`: 64 of its own, then the 32 all heads share. -/
def krow (y : Fin 1024 → ℝ) (z : Fin 32 → ℝ) (h : Fin 8) (l : Fin 96) : ℝ :=
  if hl : l.val < 64 then y ⟨h * 128 + l, by omega⟩ else z ⟨l - 64, by omega⟩

/-- The rotated query of head `h`. -/
def qryR (a0 : Fin 8 → Fin 2048 → Fin 768 → ℝ) (C S : Fin 2048 → Fin 16 → ℝ) (b : Fin 8) (t : Fin 2048) (h : Fin 8) : Fin 128 → ℝ :=
  rot (qrow (a0 b t) h) (C t) (S t)

/-- The keys of head `h`: the latent ones rotated, then the context's as they stand. -/
def keyR (a1 : Fin 8 → Fin 2048 → Fin 1024 → ℝ) (a2 : Fin 8 → Fin 2048 → Fin 32 → ℝ) (a3 : Fin 8 → Fin 256 → Fin 1024 → ℝ) (a4 : Fin 8 → Fin 256 → Fin 32 → ℝ)
    (C S : Fin 2048 → Fin 16 → ℝ) (b h : Fin 8) (k : Fin 2304) : Fin 128 → ℝ :=
  if hk : k.val < 2048 then rot (krow (a1 b ⟨k, hk⟩) (a2 b ⟨k, hk⟩) h) (C ⟨k, hk⟩) (S ⟨k, hk⟩)
  else rot (krow (a3 b ⟨k - 2048, by omega⟩) (a4 b ⟨k - 2048, by omega⟩) h) (fun _ => 1) (fun _ => 0)

/-- The values of head `h`, with ones from lane 64 on. -/
def valR (a1 : Fin 8 → Fin 2048 → Fin 1024 → ℝ) (a3 : Fin 8 → Fin 256 → Fin 1024 → ℝ) (b h : Fin 8) (d : Fin 80) (k : Fin 2304) : ℝ :=
  if hd : d.val < 64 then
    if hk : k.val < 2048 then a1 b ⟨k, hk⟩ ⟨h * 128 + (64 + d), by omega⟩ else a3 b ⟨k - 2048, by omega⟩ ⟨h * 128 + (64 + d), by omega⟩
  else 1

/-- The 96 lanes padded with zeros. -/
def pad96 (x : Fin 96 → ℝ) (l : Fin 128) : ℝ := if h : l.val < 96 then x ⟨l, h⟩ else 0

/-- The first 64 lanes. -/
def nope (x : Fin 96 → ℝ) (l : Fin 128) : ℝ := if h : l.val < 64 then x ⟨l, by omega⟩ else 0

/-- The last 32 lanes. -/
def rope (x : Fin 96 → ℝ) (l : Fin 128) : ℝ := if h : 64 ≤ l.val ∧ l.val - 64 < 32 then x ⟨64 + (l - 64), by omega⟩ else 0

/-- Each rotary lane's partner, with the sign the sine takes. -/
def partner (x : Fin 96 → ℝ) (l : Fin 128) : ℝ :=
  if h1 : l.val < 64 then 0
  else if h2 : l.val - 64 < 16 then -x ⟨64 + (16 + (l - 64)), by omega⟩
  else if h3 : l.val - 64 - 16 < 16 then x ⟨64 + (l - 64 - 16), by omega⟩
  else 0

theorem nope_low (x : Fin 96 → ℝ) (l : Fin 128) (h : l.val < 64) : nope x l = x ⟨l, by omega⟩ := dif_pos h

theorem nope_high (x : Fin 96 → ℝ) (l : Fin 128) (h : ¬ l.val < 64) : nope x l = 0 := dif_neg h

theorem partner_low (x : Fin 96 → ℝ) (l : Fin 128) (h : l.val < 64) : partner x l = 0 := dif_pos h

theorem partner_mid (x : Fin 96 → ℝ) (l : Fin 128) (h : ¬ l.val < 64) (h2 : l.val - 64 < 16) :
    partner x l = -x ⟨64 + (16 + (l - 64)), by omega⟩ := (dif_neg h).trans (dif_pos h2)

theorem partner_up (x : Fin 96 → ℝ) (l : Fin 128) (h : ¬ l.val < 64) (h2 : ¬ l.val - 64 < 16) (h3 : l.val - 64 - 16 < 16) :
    partner x l = x ⟨64 + (l - 64 - 16), by omega⟩ := (dif_neg h).trans ((dif_neg h2).trans (dif_pos h3))

theorem partner_out (x : Fin 96 → ℝ) (l : Fin 128) (h : ¬ l.val < 64) (h2 : ¬ l.val - 64 < 16) (h3 : ¬ l.val - 64 - 16 < 16) :
    partner x l = 0 := (dif_neg h).trans ((dif_neg h2).trans (dif_neg h3))

/-- A table's row: `u` on the first 64 lanes, the 16 angles twice, then zeros. -/
def lanes (u : ℝ) (C : Fin 16 → ℝ) (l : Fin 128) : ℝ :=
  if h1 : l.val < 64 then u
  else if h2 : l.val - 64 < 16 then C ⟨l - 64, h2⟩
  else if h3 : l.val - 64 - 16 < 16 then C ⟨l - 64 - 16, h3⟩
  else 0

theorem lanes_low (u : ℝ) (C : Fin 16 → ℝ) (l : Fin 128) (h : l.val < 64) : lanes u C l = u := dif_pos h

theorem lanes_mid (u : ℝ) (C : Fin 16 → ℝ) (l : Fin 128) (h : ¬ l.val < 64) (h2 : l.val - 64 < 16) : lanes u C l = C ⟨l - 64, h2⟩ :=
  (dif_neg h).trans (dif_pos h2)

theorem lanes_up (u : ℝ) (C : Fin 16 → ℝ) (l : Fin 128) (h : ¬ l.val < 64) (h2 : ¬ l.val - 64 < 16) (h3 : l.val - 64 - 16 < 16) :
    lanes u C l = C ⟨l - 64 - 16, h3⟩ := (dif_neg h).trans ((dif_neg h2).trans (dif_pos h3))

theorem lanes_out (u : ℝ) (C : Fin 16 → ℝ) (l : Fin 128) (h : ¬ l.val < 64) (h2 : ¬ l.val - 64 < 16) (h3 : ¬ l.val - 64 - 16 < 16) :
    lanes u C l = 0 := (dif_neg h).trans ((dif_neg h2).trans (dif_neg h3))

theorem rot_qry (x : Fin 96 → ℝ) (C S : Fin 16 → ℝ) (l : Fin 128) : pad96 x l * lanes 1 C l + partner x l * lanes 0 S l = rot x C S l := by
  unfold pad96 lanes partner rot
  by_cases h1 : l.val < 64
  · simp only [dif_pos h1, dif_pos (show l.val < 96 by omega)]; ring
  by_cases h2 : l.val - 64 < 16
  · simp only [dif_neg h1, dif_pos h2, dif_pos (show l.val < 96 by omega)]
    rw [show (⟨64 + (l.val - 64), by omega⟩ : Fin 96) = ⟨l, by omega⟩ from Fin.ext (by simp only; omega)]; ring
  by_cases h3 : l.val - 64 - 16 < 16
  · simp only [dif_neg h1, dif_neg h2, dif_pos h3, dif_pos (show l.val < 96 by omega)]
    rw [show (⟨64 + (16 + (l.val - 64 - 16)), by omega⟩ : Fin 96) = ⟨l, by omega⟩ from Fin.ext (by simp only; omega)]; ring
  · simp only [dif_neg h1, dif_neg h2, dif_neg h3]; ring

theorem rot_key (x : Fin 96 → ℝ) (C S : Fin 16 → ℝ) (l : Fin 128) : nope x l + (rope x l * lanes 0 C l + partner x l * lanes 0 S l) = rot x C S l := by
  unfold nope rope lanes partner rot
  by_cases h1 : l.val < 64
  · simp only [dif_pos h1, dif_neg (show ¬ (64 ≤ l.val ∧ l.val - 64 < 32) by omega)]; ring
  by_cases h2 : l.val - 64 < 16
  · simp only [dif_neg h1, dif_pos h2, dif_pos (show 64 ≤ l.val ∧ l.val - 64 < 32 by omega)]; ring
  by_cases h3 : l.val - 64 - 16 < 16
  · simp only [dif_neg h1, dif_neg h2, dif_pos h3, dif_pos (show 64 ≤ l.val ∧ l.val - 64 < 32 by omega)]
    rw [show (⟨64 + (16 + (l.val - 64 - 16)), by omega⟩ : Fin 96) = ⟨64 + (l.val - 64), by omega⟩ from Fin.ext (by simp only; omega)]; ring
  · simp only [dif_neg h1, dif_neg h2, dif_neg h3]; ring

theorem rot_ctx (x : Fin 96 → ℝ) (l : Fin 128) : nope x l + rope x l = rot x (fun _ => 1) (fun _ => 0) l := by
  unfold nope rope rot
  by_cases h1 : l.val < 64
  · simp only [dif_pos h1, dif_neg (show ¬ (64 ≤ l.val ∧ l.val - 64 < 32) by omega)]; ring
  by_cases h2 : l.val - 64 < 16
  · simp only [dif_neg h1, dif_pos h2, dif_pos (show 64 ≤ l.val ∧ l.val - 64 < 32 by omega)]; ring
  by_cases h3 : l.val - 64 - 16 < 16
  · simp only [dif_neg h1, dif_neg h2, dif_pos h3, dif_pos (show 64 ≤ l.val ∧ l.val - 64 < 32 by omega)]
    rw [show (⟨64 + (16 + (l.val - 64 - 16)), by omega⟩ : Fin 96) = ⟨64 + (l.val - 64), by omega⟩ from Fin.ext (by simp only; omega)]; ring
  · simp only [dif_neg h1, dif_neg h2, dif_neg h3, dif_neg (show ¬ (64 ≤ l.val ∧ l.val - 64 < 32) by omega)]; ring

theorem rot_high (x : Fin 96 → ℝ) (C S : Fin 16 → ℝ) (l : Fin 128) (h : 96 ≤ l.val) : rot x C S l = 0 := by
  rw [rot, dif_neg (by omega), dif_neg (by omega), dif_neg (by omega)]

theorem rot_low (x : Fin 96 → ℝ) (C S : Fin 16 → ℝ) (l : Fin 128) (h : l.val < 64) : rot x C S l = x ⟨l, by omega⟩ := dif_pos h

theorem rot_mid (x : Fin 96 → ℝ) (C S : Fin 16 → ℝ) (l : Fin 128) (h : ¬ l.val < 64) (h2 : l.val - 64 < 16) :
    rot x C S l = x ⟨64 + (l - 64), by omega⟩ * C ⟨l - 64, h2⟩ - x ⟨64 + (16 + (l - 64)), by omega⟩ * S ⟨l - 64, h2⟩ := (dif_neg h).trans (dif_pos h2)

theorem rot_up (x : Fin 96 → ℝ) (C S : Fin 16 → ℝ) (l : Fin 128) (h : ¬ l.val < 64) (h2 : ¬ l.val - 64 < 16) (h3 : l.val - 64 - 16 < 16) :
    rot x C S l = x ⟨64 + (l - 64 - 16), by omega⟩ * S ⟨l - 64 - 16, h3⟩ + x ⟨64 + (16 + (l - 64 - 16)), by omega⟩ * C ⟨l - 64 - 16, h3⟩ :=
  (dif_neg h).trans ((dif_neg h2).trans (dif_pos h3))

theorem krow_low (y : Fin 1024 → ℝ) (z : Fin 32 → ℝ) (h : Fin 8) (l : Fin 96) (hl : l.val < 64) : krow y z h l = y ⟨h * 128 + l, by omega⟩ := dif_pos hl

theorem krow_high (y : Fin 1024 → ℝ) (z : Fin 32 → ℝ) (h : Fin 8) (l : Fin 96) (hl : 64 ≤ l.val) : krow y z h l = z ⟨l - 64, by omega⟩ := dif_neg (Nat.not_lt.mpr hl)

theorem krow_add (y : Fin 1024 → ℝ) (z : Fin 32 → ℝ) (h : Fin 8) (i : ℕ) (hi : 64 + i < 96) : krow y z h ⟨64 + i, hi⟩ = z ⟨i, by omega⟩ :=
  (dif_neg (by dsimp only; omega)).trans (congrArg z (Fin.ext (by dsimp only; omega)))

/-- The padding lanes add nothing to a score. -/
theorem sum_lanes (f : Fin 128 → ℝ) (h : ∀ l : Fin 128, 96 ≤ l.val → f l = 0) : ∑ l, f l = ∑ l : Fin 96, f ⟨l, by omega⟩ := by
  rw [show (∑ l, f l) = ∑ l : Fin (96 + 32), f l from rfl, Fin.sum_univ_add, Finset.sum_eq_zero (s := (Finset.univ : Finset (Fin 32)))]
  · exact add_zero _
  · intro i _
    exact h _ (by simp)

end Cert.Mla
-- ==== Proof.MlaPoint.lean ====
module

public import proofs.«01_k».proof.Proof.MlaElem
public import proofs.«01_k».proof.Proof.MlaHeld
public import proofs.«01_k».proof.Proof.MlaSpec

@[expose] public section
set_option maxRecDepth 16384
noncomputable section

/-! The queries, keys and values a grid point computes, as real numbers, from what its blocks hold. -/

namespace Cert.Mla
open Idealize.ShloMosaic Idealize.ShloMosaic.TcCoe Cert.KernelIdeal Cert.KernelIdeal.Gen

theorem qry_point (x0 x1 : Vec Ideal S1x512x1024 .bf16) (x2 x3 : Vec Ideal S512x128 .f32) (r : Fin 512) (e : Fin 1024) (l : Fin 128)
    (y : Fin 96 → ℝ) (C S : Fin 16 → ℝ)
    (h0 : x0 (ix3 0 r e) = ((pad96 y l : ℝ) : EReal)) (h1 : x1 (ix3 0 r e) = ((partner y l : ℝ) : EReal))
    (h2 : x2 (ix2 r l) = ((lanes 1 C l : ℝ) : EReal)) (h3 : x3 (ix2 r l) = ((lanes 0 S l : ℝ) : EReal)) :
    x0 (ix3 0 r e) * (x2 (ix2 r l) * (qs : EReal)) + x1 (ix3 0 r e) * (x3 (ix2 r l) * (qs : EReal)) = ((rot y C S l * qs : ℝ) : EReal) := by
  rw [h0, h1, h2, h3, ← EReal.coe_mul, ← EReal.coe_mul, ← EReal.coe_mul, ← EReal.coe_mul, ← EReal.coe_add, ← rot_qry]
  exact congrArg (fun x : ℝ => (x : EReal)) (by ring)

theorem key_point (x4 : Vec Ideal S1x2048x1024 .bf16) (x5 x6 : Vec Ideal S1x2048x128 .bf16) (x7 x8 : Vec Ideal S2048x128 .f32)
    (x10 : Vec Ideal S1x256x1024 .bf16) (x11 : Vec Ideal S1x256x128 .bf16)
    (a1 : Fin 8 → Fin 2048 → Fin 1024 → ℝ) (a2 : Fin 8 → Fin 2048 → Fin 32 → ℝ) (a3 : Fin 8 → Fin 256 → Fin 1024 → ℝ) (a4 : Fin 8 → Fin 256 → Fin 32 → ℝ)
    (C S : Fin 2048 → Fin 16 → ℝ) (b h : Fin 8)
    (h4 : ∀ (k : Fin 2048) (l : Fin 128), x4 (ix3 0 k ⟨128 * h + l, by omega⟩) = ((nope (krow (a1 b k) (a2 b k) h) l : ℝ) : EReal))
    (h5 : ∀ (k : Fin 2048) (l : Fin 128), x5 (ix3 0 k l) = ((rope (krow (a1 b k) (a2 b k) h) l : ℝ) : EReal))
    (h6 : ∀ (k : Fin 2048) (l : Fin 128), x6 (ix3 0 k l) = ((partner (krow (a1 b k) (a2 b k) h) l : ℝ) : EReal))
    (h7 : ∀ (k : Fin 2048) (l : Fin 128), x7 (ix2 k l) = ((lanes 0 (C k) l : ℝ) : EReal))
    (h8 : ∀ (k : Fin 2048) (l : Fin 128), x8 (ix2 k l) = ((lanes 0 (S k) l : ℝ) : EReal))
    (h10 : ∀ (k : Fin 256) (l : Fin 128), x10 (ix3 0 k ⟨128 * h + l, by omega⟩) = ((nope (krow (a3 b k) (a4 b k) h) l : ℝ) : EReal))
    (h11 : ∀ (k : Fin 256) (l : Fin 128), x11 (ix3 0 k l) = ((rope (krow (a3 b k) (a4 b k) h) l : ℝ) : EReal))
    (k : Fin 2304) (l : Fin 128) :
    keyV x4 x5 x6 x7 x8 x10 x11 h k l = ((keyR a1 a2 a3 a4 C S b h k l : ℝ) : EReal) := by
  unfold keyV keyR
  by_cases hk : k.val < 2048
  · rw [dif_pos hk, dif_pos hk, h4, h5, h6, h7, h8, ← EReal.coe_mul, ← EReal.coe_mul, ← EReal.coe_add, ← EReal.coe_add, rot_key]
  · rw [dif_neg hk, dif_neg hk, h10, h11, ← EReal.coe_add, rot_ctx]

theorem val_point (x9 : Vec Ideal S1x2048x512 .bf16) (x12 : Vec Ideal S1x256x512 .bf16)
    (a1 : Fin 8 → Fin 2048 → Fin 1024 → ℝ) (a3 : Fin 8 → Fin 256 → Fin 1024 → ℝ) (b h : Fin 8)
    (h9 : ∀ (k : Fin 2048) (d : Fin 64), x9 (ix3 0 k ⟨64 * h + d, by omega⟩) = ((a1 b k ⟨h * 128 + (64 + d), by omega⟩ : ℝ) : EReal))
    (h12 : ∀ (k : Fin 256) (d : Fin 64), x12 (ix3 0 k ⟨64 * h + d, by omega⟩) = ((a3 b k ⟨h * 128 + (64 + d), by omega⟩ : ℝ) : EReal))
    (d : Fin 80) (k : Fin 2304) :
    valV x9 x12 h d k = ((valR a1 a3 b h d k : ℝ) : EReal) := by
  unfold valV valR
  by_cases hd : d.val < 64
  · by_cases hk : k.val < 2048
    · rw [dif_pos hd, dif_pos hd, dif_pos hk, dif_pos hk]
      exact h9 ⟨k, hk⟩ ⟨d, hd⟩
    · rw [dif_pos hd, dif_pos hd, dif_neg hk, dif_neg hk]
      exact h12 ⟨k - 2048, by omega⟩ ⟨d, hd⟩
  · rw [dif_neg hd, dif_neg hd]
    exact EReal.coe_one.symm

theorem val_ones (a1 : Fin 8 → Fin 2048 → Fin 1024 → ℝ) (a3 : Fin 8 → Fin 256 → Fin 1024 → ℝ) (b h : Fin 8) (k : Fin 2304) : valR a1 a3 b h 64 k = 1 :=
  dif_neg (by decide)

end Cert.Mla
-- ==== Proof.MlaOutA.lean ====
module

public import proofs.«01_k».proof.Proof.MlaBody

@[expose] public section
set_option maxRecDepth 16384
noncomputable section

namespace Cert.Mla
open Idealize.ShloMosaic Idealize.ShloMosaic.TcCoe Cert.KernelIdeal Cert.KernelIdeal.Gen

/-- A covered load reads the stored pieces through its rectangle. -/
theorem readCov_ld {Val : EltTy → Type} [∀ e, Nonempty (Val e)] {sg : RefSig} {k : Kind} {sp : Space} {s : Shape} {e : EltTy} (v : View sg k sp s e)
    (L : List (View.Piece Val s e)) (r : Rect s) : v.readCov L r.toLoadRect = View.ld (View.canon L) r :=
  View.readCov_eq_canon' v L r.toLoadRect

set_option maxHeartbeats 0 in
theorem outA (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x2048x1024 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x2048x512 .bf16) (harg11 : arg11.IsWhole) (arg12 : Memref sig .tc .vmem S1x256x1024 .bf16) (harg12 : arg12.IsWhole) (arg13 : Memref sig .tc .vmem S1x256x128 .bf16) (harg13 : arg13.IsWhole) (arg14 : Memref sig .tc .vmem S1x256x512 .bf16) (harg14 : arg14.IsWhole) (arg15 : Memref sig .tc .vmem S1x512x512 .bf16) (harg15 : arg15.IsWhole) (arg16 : Memref sig .tc .vmem S8x2304x128 .bf16) (harg16 : arg16.IsWhole) (arg17 : Memref sig .tc .vmem S8x80x2304 .bf16) (harg17 : arg17.IsWhole) (hc0 : cond0_0 i)
    (x0 : Vec Ideal S1x512x1024 .bf16) (x1 : Vec Ideal S1x512x1024 .bf16) (x2 : Vec Ideal S512x128 .f32) (x3 : Vec Ideal S512x128 .f32) (x4 : Vec Ideal S1x2048x1024 .bf16) (x5 : Vec Ideal S1x2048x128 .bf16) (x6 : Vec Ideal S1x2048x128 .bf16) (x7 : Vec Ideal S2048x128 .f32) (x8 : Vec Ideal S2048x128 .f32) (x9 : Vec Ideal S1x2048x512 .bf16) (x10 : Vec Ideal S1x256x1024 .bf16) (x11 : Vec Ideal S1x256x128 .bf16) (x12 : Vec Ideal S1x256x512 .bf16) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = outV x0 x1 x2 x3 (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12) (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12) := by
  unfold outV head
  frame_open
  simp only [↓readCov_ld]
  frame_out
  simp only [read_unread_whole, ld_kb, ld_vb, ld_qb]
  simp only [arun, mrun, Nat.reduceMul, Nat.reduceAdd]
  simp only [k0_pay1, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437]
  simp only [pack, nrm, anew, mix, wts, mnew, sco, qry, tab]
end Cert.Mla
-- ==== Proof.MlaOutB.lean ====
module

public import proofs.«01_k».proof.Proof.MlaBody

@[expose] public section
set_option maxRecDepth 16384
noncomputable section

namespace Cert.Mla
open Idealize.ShloMosaic Idealize.ShloMosaic.TcCoe Cert.KernelIdeal Cert.KernelIdeal.Gen

set_option maxHeartbeats 0 in
theorem outB (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x2048x1024 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S1x2048x512 .bf16) (harg11 : arg11.IsWhole) (arg12 : Memref sig .tc .vmem S1x256x1024 .bf16) (harg12 : arg12.IsWhole) (arg13 : Memref sig .tc .vmem S1x256x128 .bf16) (harg13 : arg13.IsWhole) (arg14 : Memref sig .tc .vmem S1x256x512 .bf16) (harg14 : arg14.IsWhole) (arg15 : Memref sig .tc .vmem S1x512x512 .bf16) (harg15 : arg15.IsWhole) (arg16 : Memref sig .tc .vmem S8x2304x128 .bf16) (harg16 : arg16.IsWhole) (arg17 : Memref sig .tc .vmem S8x80x2304 .bf16) (harg17 : arg17.IsWhole) (hc0 : ¬cond0_0 i)
    (x0 : Vec Ideal S1x512x1024 .bf16) (x1 : Vec Ideal S1x512x1024 .bf16) (x2 : Vec Ideal S512x128 .f32) (x3 : Vec Ideal S512x128 .f32) (x4 : Vec Ideal S1x2048x1024 .bf16) (x5 : Vec Ideal S1x2048x128 .bf16) (x6 : Vec Ideal S1x2048x128 .bf16) (x7 : Vec Ideal S2048x128 .f32) (x8 : Vec Ideal S2048x128 .f32) (x9 : Vec Ideal S1x2048x512 .bf16) (x10 : Vec Ideal S1x256x1024 .bf16) (x11 : Vec Ideal S1x256x128 .bf16) (x12 : Vec Ideal S1x256x512 .bf16) (xs0 : Vec Ideal S8x2304x128 .bf16) (xs1 : Vec Ideal S8x80x2304 .bf16) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 xs1 = outV x0 x1 x2 x3 xs0 xs1 := by
  unfold outV head
  frame_out
  simp only [read_unread_whole, ld_kb, ld_vb, ld_qb]
  simp only [arun, mrun, Nat.reduceMul, Nat.reduceAdd]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437]
  simp only [pack, nrm, anew, mix, wts, mnew, sco, qry, tab]
end Cert.Mla
-- ==== Proof.MlaCarry.lean ====
module

public import proofs.«01_k».proof.Proof.MlaOutA
public import proofs.«01_k».proof.Proof.MlaOutB
public import proofs.«01_k».proof.Proof.MlaHeld
public import proofs.«01_k».proof.Proof.Gen.KernelIdeal.Value
public import Idealize.ShloMosaic.Lib.Pipeline.ValueKit.Held

@[expose] public section
set_option maxRecDepth 16384
noncomputable section

namespace Cert.Mla
open Idealize.ShloMosaic Idealize.ShloMosaic.TcCoe Cert.KernelIdeal Cert.KernelIdeal.Gen

variable (m : (ℓ : Loc nD τ sig) → Buf (Elt Ideal) ℓ)

/-- The keys kept from the blocks of one point. -/
def keyP (c : Dev nD) (t : Fin cfg0.N) : Vec Ideal S8x2304x128 .bf16 := fun i =>
  keyV (iblk m c 4 t) (iblk m c 5 t) (iblk m c 6 t) (iblk m c 7 t) (iblk m c 8 t) (iblk m c 10 t) (iblk m c 11 t) (i 0) (i 1) (i 2)

/-- The values kept from the blocks of one point. -/
def valP (c : Dev nD) (t : Fin cfg0.N) : Vec Ideal S8x80x2304 .bf16 := fun i =>
  valV (iblk m c 9 t) (iblk m c 12 t) (i 0) (i 1) (i 2)

/-- The first point of a batch element's four. -/
abbrev first (t : Fin cfg0.N) : Fin cfg0.N := ⟨4 * (t.val / 4), Pipeline.run_start_lt t⟩

theorem keys_kept (c : Dev nD) (t : Fin cfg0.N) : (outsAt0 m c t.val t.isLt).2.1 = keyP m c (first t) :=
  Pipeline.eq_of_write_hold (fun n h => (outsAt0 m c n h).2.1) 4 (keyP m c)
    (fun t h => by rw [outsAt0_A m c t h]; dsimp only; rw [held0]; rfl)
    (fun t h => by rw [outsAt0_B m c t h]; rfl) t

theorem vals_kept (c : Dev nD) (t : Fin cfg0.N) : (outsAt0 m c t.val t.isLt).2.2 = valP m c (first t) :=
  Pipeline.eq_of_write_hold (fun n h => (outsAt0 m c n h).2.2) 4 (valP m c)
    (fun t h => by rw [outsAt0_A m c t h]; dsimp only; rw [held1]; rfl)
    (fun t h => by rw [outsAt0_B m c t h]; rfl) t

/-- What a point leaves: the heads over its own queries and the batch element's kept keys and values. -/
theorem out_point (c : Dev nD) (t : Fin cfg0.N) :
    (outsAt0 m c t.val t.isLt).1
      = outV (iblk m c 0 t) (iblk m c 1 t) (iblk m c 2 t) (iblk m c 3 t) (keyP m c (first t)) (valP m c (first t)) := by
  by_cases h : t.val % 4 = 0
  · have e : first t = t := Fin.ext (show 4 * (t.val / 4) = t.val by omega)
    rw [e, outsAt0_A m c t h]
    dsimp only
    rw [outA, held0, held1]
    rfl
  · have e : first t = first ⟨t.val - 1, Nat.lt_of_le_of_lt (Nat.sub_le _ _) t.isLt⟩ :=
      Fin.ext (show 4 * (t.val / 4) = 4 * ((t.val - 1) / 4) by omega)
    rw [e, outsAt0_B m c t h]
    dsimp only
    rw [outB, ← keys_kept m c ⟨t.val - 1, Nat.lt_of_le_of_lt (Nat.sub_le _ _) t.isLt⟩,
      ← vals_kept m c ⟨t.val - 1, Nat.lt_of_le_of_lt (Nat.sub_le _ _) t.isLt⟩]

end Cert.Mla
-- ==== Proof.MlaMean.lean ====
module

public import proofs.«01_k».proof.Proof.MlaElem
public import proofs.«01_k».proof.Proof.MlaSpec

@[expose] public section
set_option maxRecDepth 16384
noncomputable section

namespace Cert.Mla
open Idealize.ShloMosaic Idealize.ShloMosaic.TcCoe Cert.KernelIdeal Cert.KernelIdeal.Gen

/-- Nine blocks of 256 cover the 2304 keys. -/
theorem sum_blocks (f : Fin 2304 → ℝ) :
    ∑ i ∈ Finset.range 9, ∑ j : Fin 256, f ⟨(256 * i + j.val) % 2304, Nat.mod_lt _ (by decide)⟩ = ∑ k, f k := by
  rw [Finset.sum_range (fun i => ∑ j : Fin 256, f ⟨(256 * i + j.val) % 2304, Nat.mod_lt _ (by decide)⟩), ← Fintype.sum_prod_type']
  refine Fintype.sum_equiv (finProdFinEquiv (m := 9) (n := 256)) _ _ fun p => ?_
  obtain ⟨i, j⟩ := p
  refine congrArg f (Fin.ext ?_)
  show (256 * i.val + j.val) % 2304 = j.val + 256 * i.val
  omega

/-- The kernel's powers of two are the exponentials of the scaled scores. -/
theorem two_pow_eq (K R : Fin 128 → ℝ) :
    (2 : ℝ) ^ (∑ l, K l * (R l * qs)) = Real.exp ((∑ l, R l * K l) * (3424635 / 33554432)) := by
  have h : Real.log 2 ≠ 0 := (Real.log_pos (by norm_num)).ne'
  rw [Real.rpow_def_of_pos (by norm_num)]
  congr 1
  have e : ∑ l, K l * (R l * qs) = (∑ l, R l * K l) * qs := by
    rw [Finset.sum_mul]
    exact Finset.sum_congr rfl fun l _ => by ring
  rw [e]
  unfold qs
  field_simp

theorem head_apply (x0 x1 : Vec Ideal S1x512x1024 .bf16) (x2 x3 : Vec Ideal S512x128 .f32) (kc : Vec Ideal S8x2304x128 .bf16)
    (vt : Vec Ideal S8x80x2304 .bf16) (h : Fin 8) (r : Fin 512) (R : Fin 128 → ℝ) (K : Fin 2304 → Fin 128 → ℝ) (W : Fin 80 → Fin 2304 → ℝ)
    (hq : ∀ l : Fin 128, x0 (ix3 0 r ⟨128 * h + l, by omega⟩) * (x2 (ix2 r l) * (qs : EReal)) + x1 (ix3 0 r ⟨128 * h + l, by omega⟩) * (x3 (ix2 r l) * (qs : EReal))
      = ((R l * qs : ℝ) : EReal))
    (hk : ∀ k l, kc (ix3 h k l) = (K k l : EReal)) (hv : ∀ d k, vt (ix3 h d k) = (W d k : EReal)) (h1 : ∀ k, W 64 k = 1) (d : Fin 80) :
    head x0 x1 x2 x3 kc vt h (ix2 d r) * Ideal.div 1 (head x0 x1 x2 x3 kc vt h (ix2 64 r))
      = ((att (fun k => (∑ l, R l * K k l) * (3424635 / 33554432)) (W d) : ℝ) : EReal) := by
  have hh : (⟨h.val % 8, Nat.mod_lt _ (by decide)⟩ : Fin 8) = h := Fin.ext (Nat.mod_eq_of_lt h.isLt)
  unfold head
  rw [mean_apply _ _ _ r
    (fun n j => ∑ l, K ⟨(256 * n + j.val) % 2304, Nat.mod_lt _ (by decide)⟩ l * (R l * qs))
    (fun n d j => W d ⟨(256 * n + j.val) % 2304, Nat.mod_lt _ (by decide)⟩) ?_ ?_ ?_ d]
  · have e1 := sum_blocks (fun k => W d k * (2 : ℝ) ^ (∑ l, K k l * (R l * qs)))
    have e2 := sum_blocks (fun k => (2 : ℝ) ^ (∑ l, K k l * (R l * qs)))
    rw [e1, e2]
    simp only [two_pow_eq]
    rfl
  · intro n j
    rw [sco_apply, ← coe_sum]
    refine Finset.sum_congr rfl fun l _ => ?_
    rw [qry_apply, tab_apply, tab_apply, EReal.coe_mul, ← hq l, ← hk]
    have he : (⟨(128 * h.val + l.val) % 1024, Nat.mod_lt _ (by decide)⟩ : Fin 1024) = ⟨128 * h + l, by omega⟩ := Fin.ext (Nat.mod_eq_of_lt (by omega))
    show kc (ix3 ⟨h.val % 8, _⟩ _ l) * (x0 (ix3 0 r ⟨(128 * h.val + l.val) % 1024, _⟩) * _ + x1 (ix3 0 r ⟨(128 * h.val + l.val) % 1024, _⟩) * _) = _
    rw [he, hh]
    rfl
  · intro n d j
    rw [← hv]
    show vt (ix3 ⟨h.val % 8, _⟩ d _) = _
    rw [hh]
    rfl
  · intro n j
    exact h1 _

theorem outV_apply (x0 x1 : Vec Ideal S1x512x1024 .bf16) (x2 x3 : Vec Ideal S512x128 .f32) (kc : Vec Ideal S8x2304x128 .bf16)
    (vt : Vec Ideal S8x80x2304 .bf16) (r : Fin 512) (e : Fin 512) (R : Fin 8 → Fin 128 → ℝ) (K : Fin 8 → Fin 2304 → Fin 128 → ℝ) (W : Fin 8 → Fin 80 → Fin 2304 → ℝ)
    (hq : ∀ (h : Fin 8) (l : Fin 128), x0 (ix3 0 r ⟨128 * h + l, by omega⟩) * (x2 (ix2 r l) * (qs : EReal)) + x1 (ix3 0 r ⟨128 * h + l, by omega⟩) * (x3 (ix2 r l) * (qs : EReal))
      = ((R h l * qs : ℝ) : EReal))
    (hk : ∀ h k l, kc (ix3 h k l) = (K h k l : EReal)) (hv : ∀ h d k, vt (ix3 h d k) = (W h d k : EReal)) (h1 : ∀ h k, W h 64 k = 1)
    (h : Fin 8) (d : Fin 64) (he : e.val = 64 * h + d) :
    outV x0 x1 x2 x3 kc vt (ix3 0 r e)
      = ((att (fun k => (∑ l, R h l * K h k l) * (3424635 / 33554432)) (W h ⟨d, Nat.lt_trans d.isLt (by decide)⟩) : ℝ) : EReal) := by
  have H : ∀ (n : ℕ) (d' : Fin 80), n = h.val → d'.val = d.val →
      head x0 x1 x2 x3 kc vt n (ix2 d' r) * Ideal.div 1 (head x0 x1 x2 x3 kc vt n (ix2 64 r))
        = ((att (fun k => (∑ l, R h l * K h k l) * (3424635 / 33554432)) (W h ⟨d, Nat.lt_trans d.isLt (by decide)⟩) : ℝ) : EReal) := by
    intro n d' hn hd
    subst hn
    obtain rfl : d' = ⟨d, Nat.lt_trans d.isLt (by decide)⟩ := Fin.ext hd
    exact head_apply x0 x1 x2 x3 kc vt h r (R h) (K h) (W h) (hq h) (hk h) (hv h) (h1 h) _
  unfold outV
  generalize hy : (ix3 0 r e : S1x512x512.Idx) = y
  have y1 : (y 1).val = r.val := by rw [← hy]; rfl
  have y2 : (y 2).val = e.val := by rw [← hy]; rfl
  clear hy
  canon_tiles x hx using (View.cover_of_tiledBy _ ![1, 512, 128] (by sl_kernel_rfl) y)
  all_goals
    idx_vars x
    obtain rfl : x0 = 0 := Subsingleton.elim _ _
    obtain rfl : x1 = r := Fin.ext (hx1.symm.trans y1)
    rw [pack_apply]
    split
    · exact H _ _ (by omega) (by simp only; omega)
    · exact H _ _ (by omega) (by simp only; omega)

end Cert.Mla
-- ==== Proof.MlaHost.lean ====
module

public import proofs.«01_k».proof.Proof.Gen.KernelIdeal.Value
public import proofs.«01_k».proof.Proof.Gen.ReferenceIdeal.Read
public import Idealize.ShloMosaic.Lib.Pointwise
public import Idealize.ShloMosaic.Lib.Pipeline.ValueKit
public import Idealize.ShloMosaic.Lib.Claim
public import proofs.«01_k».proof.Proof.MlaSpec

@[expose] public section
set_option maxRecDepth 16384
noncomputable section

namespace Cert.Mla
open Idealize.ShloMosaic Idealize.ShloMosaic.TcCoe Cert.KernelIdeal Cert.KernelIdeal.Gen

/-! What the program hands its attention call, buffer by buffer, as real numbers when the arguments are real. -/

theorem sitofp_zero : (FloatOps.sitofp FTy.f32 (0#32) : Ideal .f32) = ((0 : ℝ) : EReal) := by
  show (((0#32 : BitVec 32).toInt : ℝ) : EReal) = _
  simp

variable (m : (ℓ : Loc nD τ sig) → Buf (Elt Ideal) ℓ)

theorem host_v37 (c : Dev nD) (a : Fin 8 → Fin 2048 → Fin 768 → ℝ) (ha : ∀ b t e, m ((c : Thread nD τ).loc main_arg0) (ix3 b t e) = (a b t e : EReal))
    (b : Fin 8) (k : Fin 2048) (e : Fin 1024) (h : Fin 8) (l : Fin 128) (he : e.val = 128 * h + l) :
    V m c main_v37 (ix3 b k e) = ((pad96 (qrow (a b k) h) l : ℝ) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  simp only [StableHlo.TRef.toBuf, StableHlo.TRef.ofBuf, cast_cast, cast_eq]
  pointwise
  unfold pad96 qrow
  split_ifs
  · exact (ha _ _ _).trans (congrArg (fun i => ((a b k i : ℝ) : EReal)) (Fin.ext (by first | rfl | omega | (dsimp only; omega))))
  · exfalso; omega
  · exfalso; omega
  · exact sitofp_zero

theorem host_v45 (c : Dev nD) (a : Fin 8 → Fin 2048 → Fin 768 → ℝ) (ha : ∀ b t e, m ((c : Thread nD τ).loc main_arg0) (ix3 b t e) = (a b t e : EReal))
    (b : Fin 8) (k : Fin 2048) (e : Fin 1024) (h : Fin 8) (l : Fin 128) (he : e.val = 128 * h + l) :
    V m c main_v45 (ix3 b k e) = ((partner (qrow (a b k) h) l : ℝ) : EReal) := by
  by_cases h1 : l.val < 64
  · rw [partner_low _ _ h1]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    exact (dif_neg (by omega)).trans sitofp_zero
  by_cases h2 : l.val - 64 < 16
  · rw [partner_mid _ _ h1 h2, qrow]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    refine (dif_pos ⟨by omega, by omega, by omega⟩).trans ((dif_pos (by omega)).trans ?_)
    refine (congrArg (fun x : EReal => -x) (?_ : _ = ((a b k _ : ℝ) : EReal))).trans (EReal.coe_neg _).symm
    refine (ha b k ⟨e / 128 * 96 + (64 + (16 + (e % 128 - 64))), by omega⟩).trans (congrArg (fun x : ℝ => (x : EReal)) (congrArg (a b k) (Fin.ext ?_)))
    first | rfl | (dsimp only; omega)
  by_cases h3 : l.val - 64 - 16 < 16
  · rw [partner_up _ _ h1 h2 h3, qrow]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    refine (dif_pos ⟨by omega, by omega, by omega⟩).trans ((dif_neg (by omega)).trans ?_)
    refine (ha b k ⟨e / 128 * 96 + (64 + (e % 128 - 64 - 16)), by omega⟩).trans (congrArg (fun x : ℝ => (x : EReal)) (congrArg (a b k) (Fin.ext ?_)))
    first | rfl | (dsimp only; omega)
  · rw [partner_out _ _ h1 h2 h3]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    exact (dif_neg (by omega)).trans sitofp_zero

theorem host_v54 (c : Dev nD) (a : Fin 8 → Fin 2048 → Fin 1024 → ℝ) (ha : ∀ b t e, m ((c : Thread nD τ).loc main_arg1) (ix3 b t e) = (a b t e : EReal)) (z : Fin 32 → ℝ)
    (b : Fin 8) (k : Fin 2048) (e : Fin 1024) (h : Fin 8) (l : Fin 128) (he : e.val = 128 * h + l) :
    V m c main_v54 (ix3 b k e) = ((nope (krow (a b k) z h) l : ℝ) : EReal) := by
  by_cases h1 : l.val < 64
  · rw [nope_low _ _ h1, krow_low _ _ _ _ h1]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    refine (dif_pos ⟨by omega, by omega⟩).trans ((ha b k ⟨e / 128 * 128 + e % 128, by omega⟩).trans (congrArg (fun x : ℝ => (x : EReal)) (congrArg (a b k) (Fin.ext ?_))))
    dsimp only
    omega
  · rw [nope_high _ _ h1]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    exact (dif_neg (by omega)).trans sitofp_zero

theorem host_v62 (c : Dev nD) (a : Fin 8 → Fin 256 → Fin 1024 → ℝ) (ha : ∀ b t e, m ((c : Thread nD τ).loc main_arg3) (ix3 b t e) = (a b t e : EReal)) (z : Fin 32 → ℝ)
    (b : Fin 8) (k : Fin 256) (e : Fin 1024) (h : Fin 8) (l : Fin 128) (he : e.val = 128 * h + l) :
    V m c main_v62 (ix3 b k e) = ((nope (krow (a b k) z h) l : ℝ) : EReal) := by
  by_cases h1 : l.val < 64
  · rw [nope_low _ _ h1, krow_low _ _ _ _ h1]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    refine (dif_pos ⟨by omega, by omega⟩).trans ((ha b k ⟨e / 128 * 128 + e % 128, by omega⟩).trans (congrArg (fun x : ℝ => (x : EReal)) (congrArg (a b k) (Fin.ext ?_))))
    dsimp only
    omega
  · rw [nope_high _ _ h1]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    exact (dif_neg (by omega)).trans sitofp_zero

theorem host_v67 (c : Dev nD) (a : Fin 8 → Fin 2048 → Fin 32 → ℝ) (ha : ∀ b t e, m ((c : Thread nD τ).loc main_arg2) (ix3 b t e) = (a b t e : EReal)) (y : Fin 1024 → ℝ)
    (b : Fin 8) (k : Fin 2048) (h : Fin 8) (l : Fin 128) :
    V m c main_v67 (ix3 b k l) = ((rope (krow y (a b k) h) l : ℝ) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  simp only [StableHlo.TRef.toBuf, StableHlo.TRef.ofBuf, cast_cast, cast_eq]
  pointwise
  unfold rope
  split_ifs
  · rw [krow_high _ _ _ _ (Nat.le_add_right 64 _)]
    exact (ha _ _ _).trans (congrArg (fun i => ((a b k i : ℝ) : EReal)) (Fin.ext (by first | rfl | omega | (dsimp only; omega))))
  · exact sitofp_zero

theorem host_v71 (c : Dev nD) (a : Fin 8 → Fin 256 → Fin 32 → ℝ) (ha : ∀ b t e, m ((c : Thread nD τ).loc main_arg4) (ix3 b t e) = (a b t e : EReal)) (y : Fin 1024 → ℝ)
    (b : Fin 8) (k : Fin 256) (h : Fin 8) (l : Fin 128) :
    V m c main_v71 (ix3 b k l) = ((rope (krow y (a b k) h) l : ℝ) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  simp only [StableHlo.TRef.toBuf, StableHlo.TRef.ofBuf, cast_cast, cast_eq]
  pointwise
  unfold rope
  split_ifs
  · rw [krow_high _ _ _ _ (Nat.le_add_right 64 _)]
    exact (ha _ _ _).trans (congrArg (fun i => ((a b k i : ℝ) : EReal)) (Fin.ext (by first | rfl | omega | (dsimp only; omega))))
  · exact sitofp_zero

theorem host_v69 (c : Dev nD) (a : Fin 8 → Fin 2048 → Fin 32 → ℝ) (ha : ∀ b t e, m ((c : Thread nD τ).loc main_arg2) (ix3 b t e) = (a b t e : EReal)) (y : Fin 1024 → ℝ)
    (b : Fin 8) (k : Fin 2048) (h : Fin 8) (l : Fin 128) :
    V m c main_v69 (ix3 b k l) = ((partner (krow y (a b k) h) l : ℝ) : EReal) := by
  by_cases h1 : l.val < 64
  · rw [partner_low _ _ h1]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    exact (dif_neg (by omega)).trans sitofp_zero
  by_cases h2 : l.val - 64 < 16
  · rw [partner_mid _ _ h1 h2, krow_high _ _ _ _ (Nat.le_add_right 64 _)]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    refine (dif_pos ⟨by omega, by omega⟩).trans ((dif_pos (by omega)).trans ?_)
    refine (congrArg (fun x : EReal => -x) (?_ : _ = ((a b k _ : ℝ) : EReal))).trans (EReal.coe_neg _).symm
    refine (ha b k ⟨16 + (l - 64), by omega⟩).trans (congrArg (fun x : ℝ => (x : EReal)) (congrArg (a b k) (Fin.ext ?_)))
    first | rfl | (dsimp only; omega)
  by_cases h3 : l.val - 64 - 16 < 16
  · rw [partner_up _ _ h1 h2 h3, krow_high _ _ _ _ (Nat.le_add_right 64 _)]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    refine (dif_pos ⟨by omega, by omega⟩).trans ((dif_neg (by omega)).trans ?_)
    refine (ha b k ⟨l - 64 - 16, by omega⟩).trans (congrArg (fun x : ℝ => (x : EReal)) (congrArg (a b k) (Fin.ext ?_)))
    first | rfl | (dsimp only; omega)
  · rw [partner_out _ _ h1 h2 h3]
    unfold V
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
    entry_read
    simp only [StableHlo.TRef.toBuf, StableHlo.TRef.ofBuf, cast_cast, cast_eq]
    pointwise
    exact (dif_neg (by omega)).trans sitofp_zero

theorem host_v57 (c : Dev nD) (a : Fin 8 → Fin 2048 → Fin 1024 → ℝ) (ha : ∀ b t e, m ((c : Thread nD τ).loc main_arg1) (ix3 b t e) = (a b t e : EReal))
    (b : Fin 8) (k : Fin 2048) (e : Fin 512) (h : Fin 8) (d : Fin 64) (he : e.val = 64 * h + d) :
    V m c main_v57 (ix3 b k e) = ((a b k ⟨h * 128 + (64 + d), by omega⟩ : ℝ) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  pointwise
  exact (ha _ _ _).trans (congrArg (fun i => ((a b k i : ℝ) : EReal)) (Fin.ext (by first | rfl | omega | (dsimp only; omega))))

theorem host_v65 (c : Dev nD) (a : Fin 8 → Fin 256 → Fin 1024 → ℝ) (ha : ∀ b t e, m ((c : Thread nD τ).loc main_arg3) (ix3 b t e) = (a b t e : EReal))
    (b : Fin 8) (k : Fin 256) (e : Fin 512) (h : Fin 8) (d : Fin 64) (he : e.val = 64 * h + d) :
    V m c main_v65 (ix3 b k e) = ((a b k ⟨h * 128 + (64 + d), by omega⟩ : ℝ) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  pointwise
  exact (ha _ _ _).trans (congrArg (fun i => ((a b k i : ℝ) : EReal)) (Fin.ext (by first | rfl | omega | (dsimp only; omega))))

set_option maxHeartbeats 1600000 in
theorem host_v24 (c : Dev nD) : V m c main_v24 = Cert.ReferenceIdeal.Read.val_main_v24 (F := Ideal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  rfl

set_option maxHeartbeats 1600000 in
theorem host_v25 (c : Dev nD) : V m c main_v25 = Cert.ReferenceIdeal.Read.val_main_v25 (F := Ideal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  rfl

set_option maxHeartbeats 1600000 in
theorem host_v31 (c : Dev nD) : V m c main_v31 = concatenate S2048x128 1 [⟨S2048x64, broadcastInDim S2048x64 ![] bcast_S_S2048x64 (constant (F := Ideal) S_ .f32 0x3F800000#32)⟩,
    ⟨S2048x32, concatenate S2048x32 1 [⟨S2048x16, V m c main_v24⟩, ⟨S2048x16, V m c main_v24⟩] concatenates_S2048x16_S2048x16_S2048x32_d1⟩,
    ⟨S2048x32, broadcastInDim S2048x32 ![] bcast_S_S2048x32 (constant (F := Ideal) S_ .f32 0x00000000#32)⟩] concatenates_S2048x64_S2048x32_S2048x32_S2048x128_d1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  simp only [StableHlo.after_cons, StableHlo.after_nil]
  rfl

theorem lanes_v31 (c : Dev nD) (T : Fin 2048 → Fin 16 → ℝ) (hT : ∀ t j, Cert.ReferenceIdeal.Read.val_main_v24 (F := Ideal) (ix2 t j) = (T t j : EReal)) (t : Fin 2048) (l : Fin 128) :
    V m c main_v31 (ix2 t l) = ((lanes 1 (T t) l : ℝ) : EReal) := by
  rw [host_v31, host_v24]
  pointwise
  simp only [hT]
  by_cases h1 : l.val < 64
  · rw [lanes_low _ _ _ h1]
    exact (dif_pos h1).trans EReal.coe_one.symm
  by_cases h2 : l.val - 64 < 16
  · rw [lanes_mid _ _ _ h1 h2]
    exact (dif_neg h1).trans ((dif_pos (by omega)).trans (dif_pos h2))
  by_cases h3 : l.val - 64 - 16 < 16
  · rw [lanes_up _ _ _ h1 h2 h3]
    exact (dif_neg h1).trans ((dif_pos (by omega)).trans (dif_neg h2))
  · rw [lanes_out _ _ _ h1 h2 h3]
    exact (dif_neg h1).trans ((dif_neg (by omega)).trans EReal.coe_zero.symm)

set_option maxHeartbeats 1600000 in
theorem host_v32 (c : Dev nD) : V m c main_v32 = concatenate S2048x128 1 [⟨S2048x64, broadcastInDim S2048x64 ![] bcast_S_S2048x64 (constant (F := Ideal) S_ .f32 0x00000000#32)⟩,
    ⟨S2048x32, concatenate S2048x32 1 [⟨S2048x16, V m c main_v25⟩, ⟨S2048x16, V m c main_v25⟩] concatenates_S2048x16_S2048x16_S2048x32_d1⟩,
    ⟨S2048x32, broadcastInDim S2048x32 ![] bcast_S_S2048x32 (constant (F := Ideal) S_ .f32 0x00000000#32)⟩] concatenates_S2048x64_S2048x32_S2048x32_S2048x128_d1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  simp only [StableHlo.after_cons, StableHlo.after_nil]
  rfl

theorem lanes_v32 (c : Dev nD) (T : Fin 2048 → Fin 16 → ℝ) (hT : ∀ t j, Cert.ReferenceIdeal.Read.val_main_v25 (F := Ideal) (ix2 t j) = (T t j : EReal)) (t : Fin 2048) (l : Fin 128) :
    V m c main_v32 (ix2 t l) = ((lanes 0 (T t) l : ℝ) : EReal) := by
  rw [host_v32, host_v25]
  pointwise
  simp only [hT]
  by_cases h1 : l.val < 64
  · rw [lanes_low _ _ _ h1]
    exact (dif_pos h1).trans EReal.coe_zero.symm
  by_cases h2 : l.val - 64 < 16
  · rw [lanes_mid _ _ _ h1 h2]
    exact (dif_neg h1).trans ((dif_pos (by omega)).trans (dif_pos h2))
  by_cases h3 : l.val - 64 - 16 < 16
  · rw [lanes_up _ _ _ h1 h2 h3]
    exact (dif_neg h1).trans ((dif_pos (by omega)).trans (dif_neg h2))
  · rw [lanes_out _ _ _ h1 h2 h3]
    exact (dif_neg h1).trans ((dif_neg (by omega)).trans EReal.coe_zero.symm)

set_option maxHeartbeats 1600000 in
theorem host_v33 (c : Dev nD) : V m c main_v33 = concatenate S2048x128 1 [⟨S2048x64, broadcastInDim S2048x64 ![] bcast_S_S2048x64 (constant (F := Ideal) S_ .f32 0x00000000#32)⟩,
    ⟨S2048x32, concatenate S2048x32 1 [⟨S2048x16, V m c main_v24⟩, ⟨S2048x16, V m c main_v24⟩] concatenates_S2048x16_S2048x16_S2048x32_d1⟩,
    ⟨S2048x32, broadcastInDim S2048x32 ![] bcast_S_S2048x32 (constant (F := Ideal) S_ .f32 0x00000000#32)⟩] concatenates_S2048x64_S2048x32_S2048x32_S2048x128_d1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  simp only [StableHlo.after_cons, StableHlo.after_nil]
  rfl

theorem lanes_v33 (c : Dev nD) (T : Fin 2048 → Fin 16 → ℝ) (hT : ∀ t j, Cert.ReferenceIdeal.Read.val_main_v24 (F := Ideal) (ix2 t j) = (T t j : EReal)) (t : Fin 2048) (l : Fin 128) :
    V m c main_v33 (ix2 t l) = ((lanes 0 (T t) l : ℝ) : EReal) := by
  rw [host_v33, host_v24]
  pointwise
  simp only [hT]
  by_cases h1 : l.val < 64
  · rw [lanes_low _ _ _ h1]
    exact (dif_pos h1).trans EReal.coe_zero.symm
  by_cases h2 : l.val - 64 < 16
  · rw [lanes_mid _ _ _ h1 h2]
    exact (dif_neg h1).trans ((dif_pos (by omega)).trans (dif_pos h2))
  by_cases h3 : l.val - 64 - 16 < 16
  · rw [lanes_up _ _ _ h1 h2 h3]
    exact (dif_neg h1).trans ((dif_pos (by omega)).trans (dif_neg h2))
  · rw [lanes_out _ _ _ h1 h2 h3]
    exact (dif_neg h1).trans ((dif_neg (by omega)).trans EReal.coe_zero.symm)

end Cert.Mla
-- ==== Proof.MlaRefA.lean ====
module

public import proofs.«01_k».proof.Proof.Gen.ReferenceIdeal.Read
public import proofs.«01_k».proof.Proof.MlaSpec
public import Idealize.ShloMosaic.Lib.Pointwise
public import Idealize.ShloMosaic.Lib.Pipeline.ValueKit

@[expose] public section
set_option maxRecDepth 16384
noncomputable section

/-! The reference on finite inputs, entry by entry. -/

namespace Cert.Mla
open Idealize.ShloMosaic Idealize.ShloMosaic.TcCoe Cert.ReferenceIdeal Cert.ReferenceIdeal.Read

theorem freq_real (a b : BitVec 32) : ∃ r : ℝ, (FloatOps.sitofp FTy.f32 a : Ideal .f32) *
    Ideal.pow (Ideal.ofBits FTy.f32 1176256512#32) (Ideal.div (-(FloatOps.sitofp FTy.f32 b : Ideal .f32)) (Ideal.ofBits FTy.f32 1090519040#32)) = (r : EReal) := by
  have h1 : Ideal.ofBits FTy.f32 1176256512#32 = ((10000 : ℝ) : EReal) := by
    simp [Ideal.ofBits, Ideal.ieee, -EReal.coe_mul]; norm_num
  have h2 : Ideal.ofBits FTy.f32 1090519040#32 = ((8 : ℝ) : EReal) := by
    simp [Ideal.ofBits, Ideal.ieee, -EReal.coe_mul]; norm_num
  rw [h1, h2, Ideal.div_coe (by norm_num)]
  refine ⟨(a.toInt : ℝ) * Real.rpow 10000 (-(b.toInt : ℝ) * (1 / 8)), ?_⟩
  rw [EReal.coe_mul]
  refine congrArg₂ (· * ·) rfl ?_
  rw [← Ideal.pow_coe_coe, EReal.coe_mul, EReal.coe_neg]
  rfl

theorem angle_real (t : Fin 2048) (e : Fin 16) : ∃ r : ℝ, val_main_v23 (F := Ideal) (ix2 t e) = (r : EReal) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  split
  · exact freq_real _ _
  · exact freq_real _ _

/-- The cosines and sines of the positions' angles are real numbers. -/
theorem tables : ∃ C S : Fin 2048 → Fin 16 → ℝ,
    (∀ t j, val_main_v24 (F := Ideal) (ix2 t j) = (C t j : EReal)) ∧ ∀ t j, val_main_v25 (F := Ideal) (ix2 t j) = (S t j : EReal) := by
  choose A hA using angle_real
  refine ⟨fun t j => Real.cos (A t j), fun t j => Real.sin (A t j), fun t j => ?_, fun t j => ?_⟩
  · show Ideal.cos (val_main_v23 (F := Ideal) (ix2 t j)) = _
    rw [hA]
    rfl
  · show Ideal.sin (val_main_v23 (F := Ideal) (ix2 t j)) = _
    rw [hA]
    rfl

end Cert.Mla
-- ==== Proof.MlaRefQ.lean ====
module

public import proofs.«01_k».proof.Proof.Gen.ReferenceIdeal.Read
public import proofs.«01_k».proof.Proof.MlaSpec
public import Idealize.ShloMosaic.Lib.Pointwise
public import Idealize.ShloMosaic.Lib.Pipeline.ValueKit

@[expose] public section
set_option maxRecDepth 16384
noncomputable section

/-! The reference on finite inputs, entry by entry. -/

namespace Cert.Mla
open Idealize.ShloMosaic Idealize.ShloMosaic.TcCoe Cert.ReferenceIdeal Cert.ReferenceIdeal.Read

variable {C S : Fin 2048 → Fin 16 → ℝ} (hC : ∀ t j, val_main_v24 (F := Ideal) (ix2 t j) = (C t j : EReal))
  (hS : ∀ t j, val_main_v25 (F := Ideal) (ix2 t j) = (S t j : EReal))

include hC hS in
theorem refQ (x0 : Vec Ideal S8x2048x768 .f32) (a0 : Fin 8 → Fin 2048 → Fin 768 → ℝ) (h0 : ∀ b t e, x0 (ix3 b t e) = (a0 b t e : EReal))
    (b : Fin 8) (t : Fin 2048) (h : Fin 8) (l : Fin 96) :
    val_main_v48 (F := Ideal) x0 (ix4 b t h l) = ((qryR a0 C S b t h ⟨l, Nat.lt_trans l.isLt (by decide)⟩ : ℝ) : EReal) := by
  unfold qryR
  by_cases h1 : l.val < 64
  · rw [rot_low _ _ _ ⟨l.val, Nat.lt_trans l.isLt (by decide)⟩ h1, qrow]
    pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26]
    exact (dif_pos h1).trans (h0 _ _ _)
  by_cases h2 : l.val - 64 < 16
  · rw [rot_mid _ _ _ ⟨l.val, Nat.lt_trans l.isLt (by decide)⟩ h1 h2, EReal.coe_sub, EReal.coe_mul, EReal.coe_mul, ← hC, ← hS, qrow, qrow, ← h0, ← h0]
    pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26]
    exact (dif_neg h1).trans (dif_pos h2)
  · rw [rot_up _ _ _ ⟨l.val, Nat.lt_trans l.isLt (by decide)⟩ h1 h2 (by dsimp only; omega), EReal.coe_add, EReal.coe_mul, EReal.coe_mul, ← hC, ← hS, qrow, qrow, ← h0, ← h0]
    pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26]
    exact (dif_neg h1).trans (dif_neg h2)

end Cert.Mla
-- ==== Proof.MlaRefK.lean ====
module

public import proofs.«01_k».proof.Proof.Gen.ReferenceIdeal.Read
public import proofs.«01_k».proof.Proof.MlaSpec
public import Idealize.ShloMosaic.Lib.Pointwise
public import Idealize.ShloMosaic.Lib.Pipeline.ValueKit

@[expose] public section
set_option maxRecDepth 16384
noncomputable section

/-! The reference on finite inputs, entry by entry. -/

namespace Cert.Mla
open Idealize.ShloMosaic Idealize.ShloMosaic.TcCoe Cert.ReferenceIdeal Cert.ReferenceIdeal.Read

variable {C S : Fin 2048 → Fin 16 → ℝ} (hC : ∀ t j, val_main_v24 (F := Ideal) (ix2 t j) = (C t j : EReal))
  (hS : ∀ t j, val_main_v25 (F := Ideal) (ix2 t j) = (S t j : EReal))

include hC hS in
theorem refK (x1 : Vec Ideal S8x2048x1024 .f32) (x2 : Vec Ideal S8x2048x32 .f32) (x3 : Vec Ideal S8x256x1024 .f32) (x4 : Vec Ideal S8x256x32 .f32)
    (a1 : Fin 8 → Fin 2048 → Fin 1024 → ℝ) (a2 : Fin 8 → Fin 2048 → Fin 32 → ℝ) (a3 : Fin 8 → Fin 256 → Fin 1024 → ℝ) (a4 : Fin 8 → Fin 256 → Fin 32 → ℝ)
    (h1 : ∀ b t e, x1 (ix3 b t e) = (a1 b t e : EReal)) (h2 : ∀ b t e, x2 (ix3 b t e) = (a2 b t e : EReal))
    (h3 : ∀ b t e, x3 (ix3 b t e) = (a3 b t e : EReal)) (h4 : ∀ b t e, x4 (ix3 b t e) = (a4 b t e : EReal))
    (b : Fin 8) (k : Fin 2304) (h : Fin 8) (l : Fin 96) :
    val_main_v80 (F := Ideal) x1 x2 x3 x4 (ix4 b k h l) = ((keyR a1 a2 a3 a4 C S b h k ⟨l, Nat.lt_trans l.isLt (by decide)⟩ : ℝ) : EReal) := by
  by_cases hk : k.val < 2048
  · rw [keyR, dif_pos hk]
    by_cases l1 : l.val < 64
    · rw [rot_low _ _ _ ⟨l.val, Nat.lt_trans l.isLt (by decide)⟩ l1, krow_low _ _ _ _ l1, ← h1]
      pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49]
      exact (dif_pos hk).trans (dif_pos l1)
    by_cases l2 : l.val - 64 < 16
    · rw [rot_mid _ _ _ ⟨l.val, Nat.lt_trans l.isLt (by decide)⟩ l1 l2, krow_add, krow_add, EReal.coe_sub, EReal.coe_mul, EReal.coe_mul, ← hC, ← hS, ← h2, ← h2]
      pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49]
      exact (dif_pos hk).trans ((dif_neg l1).trans (dif_pos l2))
    · rw [rot_up _ _ _ ⟨l.val, Nat.lt_trans l.isLt (by decide)⟩ l1 l2 (by dsimp only; omega), krow_add, krow_add, EReal.coe_add, EReal.coe_mul, EReal.coe_mul, ← hC, ← hS, ← h2, ← h2]
      pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49]
      exact (dif_pos hk).trans ((dif_neg l1).trans (dif_neg l2))
  · rw [keyR, dif_neg hk, ← rot_ctx]
    by_cases l1 : l.val < 64
    · rw [nope_low _ ⟨l.val, Nat.lt_trans l.isLt (by decide)⟩ l1, rope, dif_neg (by dsimp only; omega), add_zero, krow_low _ _ _ _ l1, ← h3]
      pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49]
      exact (dif_neg hk).trans (dif_pos l1)
    · rw [nope_high _ ⟨l.val, Nat.lt_trans l.isLt (by decide)⟩ l1, rope, dif_pos (by dsimp only; omega), zero_add, krow_add, ← h4]
      pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49]
      exact (dif_neg hk).trans (dif_neg l1)

end Cert.Mla
-- ==== Proof.MlaRefV.lean ====
module

public import proofs.«01_k».proof.Proof.Gen.ReferenceIdeal.Read
public import proofs.«01_k».proof.Proof.MlaSpec
public import Idealize.ShloMosaic.Lib.Pointwise
public import Idealize.ShloMosaic.Lib.Pipeline.ValueKit

@[expose] public section
set_option maxRecDepth 16384
noncomputable section

/-! The reference on finite inputs, entry by entry. -/

namespace Cert.Mla
open Idealize.ShloMosaic Idealize.ShloMosaic.TcCoe Cert.ReferenceIdeal Cert.ReferenceIdeal.Read

theorem refV (x1 : Vec Ideal S8x2048x1024 .f32) (x3 : Vec Ideal S8x256x1024 .f32) (a1 : Fin 8 → Fin 2048 → Fin 1024 → ℝ) (a3 : Fin 8 → Fin 256 → Fin 1024 → ℝ)
    (h1 : ∀ b t e, x1 (ix3 b t e) = (a1 b t e : EReal)) (h3 : ∀ b t e, x3 (ix3 b t e) = (a3 b t e : EReal))
    (b : Fin 8) (k : Fin 2304) (h : Fin 8) (d : Fin 64) :
    val_main_v81 (F := Ideal) x1 x3 (ix4 b k h d) = ((valR a1 a3 b h ⟨d, Nat.lt_trans d.isLt (by decide)⟩ k : ℝ) : EReal) := by
  pointwise [val_main_v81, val_main_v79, val_main_v74, val_main_v73, val_main_v50, val_main_v49]
  rw [valR, dif_pos d.isLt]
  by_cases hk : k.val < 2048
  · rw [dif_pos hk (t := fun hk => a1 b ⟨k, hk⟩ _)]
    exact (dif_pos hk).trans (h1 _ _ _)
  · rw [dif_neg hk (e := fun hk => a3 b ⟨k - 2048, _⟩ _)]
    exact (dif_neg hk).trans (h3 _ _ _)

end Cert.Mla
-- ==== Proof.MlaRef.lean ====
module

public import proofs.«01_k».proof.Proof.Gen.ReferenceIdeal.Read
public import proofs.«01_k».proof.Proof.MlaElem
public import proofs.«01_k».proof.Proof.MlaSpec
public import proofs.«01_k».proof.Proof.MlaRefA
public import proofs.«01_k».proof.Proof.MlaRefQ
public import proofs.«01_k».proof.Proof.MlaRefK
public import proofs.«01_k».proof.Proof.MlaRefV
public import Idealize.ShloMosaic.Lib.Pointwise
public import Idealize.ShloMosaic.Lib.Pipeline.ValueKit

@[expose] public section
set_option maxRecDepth 16384
noncomputable section

/-! The reference on finite inputs, entry by entry. -/

namespace Cert.Mla
open Idealize.ShloMosaic Idealize.ShloMosaic.TcCoe Cert.ReferenceIdeal Cert.ReferenceIdeal.Read

variable {C S : Fin 2048 → Fin 16 → ℝ} (hC : ∀ t j, val_main_v24 (F := Ideal) (ix2 t j) = (C t j : EReal))
  (hS : ∀ t j, val_main_v25 (F := Ideal) (ix2 t j) = (S t j : EReal))

/-- The scaled scores of head `h`. -/
def scoR (a0 : Fin 8 → Fin 2048 → Fin 768 → ℝ) (a1 : Fin 8 → Fin 2048 → Fin 1024 → ℝ) (a2 : Fin 8 → Fin 2048 → Fin 32 → ℝ)
    (a3 : Fin 8 → Fin 256 → Fin 1024 → ℝ) (a4 : Fin 8 → Fin 256 → Fin 32 → ℝ) (C S : Fin 2048 → Fin 16 → ℝ) (b : Fin 8) (t : Fin 2048) (h : Fin 8) (k : Fin 2304) : ℝ :=
  (∑ l, qryR a0 C S b t h l * keyR a1 a2 a3 a4 C S b h k l) * (3424635 / 33554432)

theorem scale_bits : Ideal.ofBits FTy.f32 1037108716#32 = ((3424635 / 33554432 : ℝ) : EReal) := by
  simp [Ideal.ofBits, Ideal.ieee, -EReal.coe_mul]; norm_num

theorem neg_inf_bits : Ideal.ofBits FTy.f32 4286578688#32 = ⊥ := by
  simp [Ideal.ofBits, Ideal.ieee, -EReal.coe_mul]

theorem refM1 (x0 : Vec Ideal S8x2048x768 .f32) (x1 : Vec Ideal S8x2048x1024 .f32) (x2 : Vec Ideal S8x2048x32 .f32) (x3 : Vec Ideal S8x256x1024 .f32) (x4 : Vec Ideal S8x256x32 .f32) (b h : Fin 8) (t : Fin 2048) :
    val_main_v85 (F := Ideal) x0 x1 x2 x3 x4 (ix3 b h t) = Finset.fold max (Ideal.ofBits FTy.f32 4286578688#32) (fun k : Fin 2304 => val_main_v84 (F := Ideal) x0 x1 x2 x3 x4 (ix4 b h t k)) Finset.univ := by
  unfold val_main_v85
  generalize val_main_v84 (F := Ideal) x0 x1 x2 x3 x4 = s
  pointwise [val_main_cst_2]

theorem refM2 (x0 : Vec Ideal S8x2048x768 .f32) (x1 : Vec Ideal S8x2048x1024 .f32) (x2 : Vec Ideal S8x2048x32 .f32) (x3 : Vec Ideal S8x256x1024 .f32) (x4 : Vec Ideal S8x256x32 .f32) (b h : Fin 8) (t : Fin 2048) :
    val_main_v87 (F := Ideal) x0 x1 x2 x3 x4 (ix3 b h t) = max (Ideal.ofBits FTy.f32 4286578688#32) (val_main_v85 (F := Ideal) x0 x1 x2 x3 x4 (ix3 b h t)) := by
  rw [val_main_v87_apply, Ideal.maximumf_def]
  generalize val_main_v85 (F := Ideal) x0 x1 x2 x3 x4 (ix3 b h t) = s
  refine congrArg (fun z : EReal => max z s) ?_
  pointwise [val_main_v86, val_main_cst_3]

theorem refE (x0 : Vec Ideal S8x2048x768 .f32) (x1 : Vec Ideal S8x2048x1024 .f32) (x2 : Vec Ideal S8x2048x32 .f32) (x3 : Vec Ideal S8x256x1024 .f32) (x4 : Vec Ideal S8x256x32 .f32) (b h : Fin 8) (t : Fin 2048) (k : Fin 2304) :
    val_main_v91 (F := Ideal) x0 x1 x2 x3 x4 (ix4 b h t k) = Ideal.exp (val_main_v84 (F := Ideal) x0 x1 x2 x3 x4 (ix4 b h t k) - val_main_v87 (F := Ideal) x0 x1 x2 x3 x4 (ix3 b h t)) := by
  pointwise [val_main_v91, val_main_v90, val_main_v89, val_main_v88]

theorem refZ (x0 : Vec Ideal S8x2048x768 .f32) (x1 : Vec Ideal S8x2048x1024 .f32) (x2 : Vec Ideal S8x2048x32 .f32) (x3 : Vec Ideal S8x256x1024 .f32) (x4 : Vec Ideal S8x256x32 .f32) (b h : Fin 8) (t : Fin 2048) :
    val_main_v92 (F := Ideal) x0 x1 x2 x3 x4 (ix3 b h t) = ∑ k : Fin 2304, val_main_v91 (F := Ideal) x0 x1 x2 x3 x4 (ix4 b h t k) := by
  pointwise [val_main_v92, val_main_cst_4]

theorem refD (x0 : Vec Ideal S8x2048x768 .f32) (x1 : Vec Ideal S8x2048x1024 .f32) (x2 : Vec Ideal S8x2048x32 .f32) (x3 : Vec Ideal S8x256x1024 .f32) (x4 : Vec Ideal S8x256x32 .f32) (b h : Fin 8) (t : Fin 2048) (k : Fin 2304) :
    val_main_v95 (F := Ideal) x0 x1 x2 x3 x4 (ix4 b h t k) = Ideal.div (val_main_v91 (F := Ideal) x0 x1 x2 x3 x4 (ix4 b h t k)) (val_main_v92 (F := Ideal) x0 x1 x2 x3 x4 (ix3 b h t)) := by
  pointwise [val_main_v95, val_main_v94, val_main_v93]

section
variable (x0 : Vec Ideal S8x2048x768 .f32) (x1 : Vec Ideal S8x2048x1024 .f32) (x2 : Vec Ideal S8x2048x32 .f32) (x3 : Vec Ideal S8x256x1024 .f32) (x4 : Vec Ideal S8x256x32 .f32)
  (a0 : Fin 8 → Fin 2048 → Fin 768 → ℝ) (a1 : Fin 8 → Fin 2048 → Fin 1024 → ℝ) (a2 : Fin 8 → Fin 2048 → Fin 32 → ℝ)
  (a3 : Fin 8 → Fin 256 → Fin 1024 → ℝ) (a4 : Fin 8 → Fin 256 → Fin 32 → ℝ)
  (h0 : ∀ b t e, x0 (ix3 b t e) = (a0 b t e : EReal))
  (h1 : ∀ b t e, x1 (ix3 b t e) = (a1 b t e : EReal)) (h2 : ∀ b t e, x2 (ix3 b t e) = (a2 b t e : EReal))
  (h3 : ∀ b t e, x3 (ix3 b t e) = (a3 b t e : EReal)) (h4 : ∀ b t e, x4 (ix3 b t e) = (a4 b t e : EReal))
include hC hS h0 h1 h2 h3 h4

theorem refS (b : Fin 8) (h : Fin 8) (t : Fin 2048) (k : Fin 2304) :
    val_main_v84 (F := Ideal) x0 x1 x2 x3 x4 (ix4 b h t k) = ((scoR a0 a1 a2 a3 a4 C S b t h k : ℝ) : EReal) := by
  pointwise [val_main_v84, val_main_v83, val_main_v82, val_main_cst_1]
  have e : ∀ l : Fin 96, val_main_v48 (F := Ideal) x0 (ix4 b t h l) * val_main_v80 (F := Ideal) x1 x2 x3 x4 (ix4 b k h l)
      = ((qryR a0 C S b t h ⟨l, Nat.lt_trans l.isLt (by decide)⟩ * keyR a1 a2 a3 a4 C S b h k ⟨l, Nat.lt_trans l.isLt (by decide)⟩ : ℝ) : EReal) := fun l => by
    rw [refQ hC hS x0 a0 h0, refK hC hS x1 x2 x3 x4 a1 a2 a3 a4 h1 h2 h3 h4, EReal.coe_mul]
  rw [Finset.sum_congr rfl fun l _ => e l, coe_sum, scale_bits, ← EReal.coe_mul, scoR, sum_lanes]
  intro l hl
  rw [qryR, rot_high _ _ _ _ hl, zero_mul]

theorem refW (b : Fin 8) (h : Fin 8) (t : Fin 2048) (k : Fin 2304) :
    val_main_v95 (F := Ideal) x0 x1 x2 x3 x4 (ix4 b h t k)
      = ((Real.exp (scoR a0 a1 a2 a3 a4 C S b t h k) / ∑ k', Real.exp (scoR a0 a1 a2 a3 a4 C S b t h k') : ℝ) : EReal) := by
  obtain ⟨μ, hμ⟩ := fold_max_real (fun k' => scoR a0 a1 a2 a3 a4 C S b t h k')
  have hS' : ∀ k', val_main_v84 (F := Ideal) x0 x1 x2 x3 x4 (ix4 b h t k') = ((scoR a0 a1 a2 a3 a4 C S b t h k' : ℝ) : EReal) :=
    fun k' => refS hC hS x0 x1 x2 x3 x4 a0 a1 a2 a3 a4 h0 h1 h2 h3 h4 b h t k'
  have hM : val_main_v87 (F := Ideal) x0 x1 x2 x3 x4 (ix3 b h t) = (μ : EReal) := by
    rw [refM2, refM1, neg_inf_bits]
    simp only [hS']
    rw [hμ, max_eq_right bot_le]
  have hE : ∀ k', val_main_v91 (F := Ideal) x0 x1 x2 x3 x4 (ix4 b h t k') = ((Real.exp (scoR a0 a1 a2 a3 a4 C S b t h k' - μ) : ℝ) : EReal) := fun k' => by
    rw [refE, hS', hM, ← EReal.coe_sub, Ideal.exp_coe]
  have hne : (∑ k', Real.exp (scoR a0 a1 a2 a3 a4 C S b t h k' - μ)) ≠ 0 :=
    (Finset.sum_pos (fun _ _ => Real.exp_pos _) ⟨k, Finset.mem_univ _⟩).ne'
  rw [refD, refZ, hE]
  simp only [hE]
  rw [coe_sum, Ideal.div_coe hne, ← EReal.coe_mul]
  refine congrArg (fun x : ℝ => (x : EReal)) ?_
  have hμ0 : Real.exp μ ≠ 0 := (Real.exp_pos μ).ne'
  rw [mul_one_div]
  simp only [Real.exp_sub, ← Finset.sum_div]
  rw [div_div_div_cancel_right₀ hμ0]

/-- The reference's entry of head `h`, lane `d`: the mean of the values under the softmax of the scaled scores. -/
theorem ref_apply (b : Fin 8) (t : Fin 2048) (e : Fin 512) (h : Fin 8) (d : Fin 64) (he : e.val = 64 * h + d) :
    val_main_v99 (F := Ideal) x0 x1 x2 x3 x4 (ix3 b t e)
      = ((att (scoR a0 a1 a2 a3 a4 C S b t h) (valR a1 a3 b h ⟨d, Nat.lt_trans d.isLt (by decide)⟩) : ℝ) : EReal) := by
  pointwise [val_main_v99, val_main_v98, val_main_v97, val_main_v96]
  have hh : (⟨e.val / 64, by omega⟩ : Fin 8) = h := Fin.ext (by dsimp only; omega)
  have hd : (⟨e.val % 64, by omega⟩ : Fin 64) = d := Fin.ext (by dsimp only; omega)
  simp only [hh, hd]
  rw [Finset.sum_congr rfl fun k _ => (congrArg₂ (· * ·) (refV x1 x3 a1 a3 h1 h3 b k _ _) (refW hC hS x0 x1 x2 x3 x4 a0 a1 a2 a3 a4 h0 h1 h2 h3 h4 b _ t k)).trans (EReal.coe_mul _ _).symm,
    coe_sum, att, Finset.sum_div]
  exact congrArg (fun x : ℝ => (x : EReal)) (Finset.sum_congr rfl fun k _ => (mul_div_assoc _ _ _).symm)

end

end Cert.Mla
-- ==== Proof.MlaFin.lean ====
module

public import proofs.«01_k».proof.Defs
public import Idealize.ShloMosaic.Lib.ReduceAll
public import Idealize.ShloMosaic.Lib.Pointwise

@[expose] public section
set_option maxRecDepth 16384
noncomputable section

/-! What the precondition says: every entry of every argument is a real number. -/

namespace Cert.Mla
open Idealize.ShloMosaic Idealize.ShloMosaic.TcCoe Cert.KernelIdeal

theorem and_one : ∀ a b : BitVec 1, a &&& b = 1#1 → a = 1#1 ∧ b = 1#1 := by decide

theorem inf_bits : Ideal.ofBits FTy.f32 0x7F800000#32 = ⊤ := by
  simp [Ideal.ofBits, Ideal.ieee, -EReal.coe_mul]

theorem real_of_lt (x : EReal) (h : (FloatOps.cmpf CmpFPredicate.olt (FloatOps.hostAbsf (x : Ideal .f32)) (Ideal.ofBits FTy.f32 0x7F800000#32 : Ideal .f32)) = 1#1) :
    ∃ r : ℝ, x = (r : EReal) := by
  rw [inf_bits] at h
  induction x using EReal.rec with
  | bot => exact absurd h (by simp [Ideal.absf_def, Ideal.hostAbsf_def, Ideal.cmpf_def, Ideal.cmp])
  | coe r => exact ⟨r, rfl⟩
  | top => exact absurd h (by simp [Ideal.absf_def, Ideal.hostAbsf_def, Ideal.cmpf_def, Ideal.cmp])

theorem finite_args [hPre_finite : Cert.Pre_finite.Facts] (m : (ℓ : Loc nD τ sig) → Buf (Elt Ideal) ℓ) (hpre : Cert.Pre_KernelIdeal_finite m) (c : Dev nD) :
    (∀ i, ∃ r : ℝ, m ((c : Thread nD τ).loc main_arg0) i = (r : EReal)) ∧ (∀ i, ∃ r : ℝ, m ((c : Thread nD τ).loc main_arg1) i = (r : EReal))
      ∧ (∀ i, ∃ r : ℝ, m ((c : Thread nD τ).loc main_arg2) i = (r : EReal)) ∧ (∀ i, ∃ r : ℝ, m ((c : Thread nD τ).loc main_arg3) i = (r : EReal))
      ∧ ∀ i, ∃ r : ℝ, m ((c : Thread nD τ).loc main_arg4) i = (r : EReal) := by
  have e := congrFun (hpre c) (fun a => a.elim0)
  unfold Cert.Pre_finite.fn Cert.Pre_finite.fn_part1 at e
  dsimp only at e
  haveI : Subsingleton Cert.Pre_finite.S_.Idx := ⟨fun a b => funext fun k => k.elim0⟩
  obtain ⟨e, e4⟩ := and_one _ _ e
  obtain ⟨e, e3⟩ := and_one _ _ e
  obtain ⟨e, e2⟩ := and_one _ _ e
  obtain ⟨e0, e1⟩ := and_one _ _ e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

end Cert.Mla
-- ==== Proof.Mla.lean ====
module

public import proofs.«01_k».proof.Defs
public import proofs.«01_k».proof.Proof.MlaBlk
public import proofs.«01_k».proof.Proof.MlaPoint
public import proofs.«01_k».proof.Proof.MlaCarry
public import proofs.«01_k».proof.Proof.MlaMean
public import proofs.«01_k».proof.Proof.MlaHost
public import proofs.«01_k».proof.Proof.MlaRef
public import proofs.«01_k».proof.Proof.MlaFin

@[expose] public section
set_option maxRecDepth 16384
noncomputable section

/-! The attention call: on real arguments the kernel's result is the reference's, element by element. -/

namespace Cert.Mla
open Idealize.ShloMosaic Idealize.ShloMosaic.TcCoe Cert.KernelIdeal Cert.KernelIdeal.Gen

section
variable (m : (ℓ : Loc nD τ sig) → Buf (Elt Ideal) ℓ) (c : Dev nD) (C S : Fin 2048 → Fin 16 → ℝ)
  (hC : ∀ t j, Cert.ReferenceIdeal.Read.val_main_v24 (F := Ideal) (ix2 t j) = (C t j : EReal))
  (hS : ∀ t j, Cert.ReferenceIdeal.Read.val_main_v25 (F := Ideal) (ix2 t j) = (S t j : EReal))
  (a0 : Fin 8 → Fin 2048 → Fin 768 → ℝ) (a1 : Fin 8 → Fin 2048 → Fin 1024 → ℝ) (a2 : Fin 8 → Fin 2048 → Fin 32 → ℝ)
  (a3 : Fin 8 → Fin 256 → Fin 1024 → ℝ) (a4 : Fin 8 → Fin 256 → Fin 32 → ℝ)
  (h0 : ∀ b t e, m ((c : Thread nD τ).loc main_arg0) (ix3 b t e) = (a0 b t e : EReal))
  (h1 : ∀ b t e, m ((c : Thread nD τ).loc main_arg1) (ix3 b t e) = (a1 b t e : EReal))
  (h2 : ∀ b t e, m ((c : Thread nD τ).loc main_arg2) (ix3 b t e) = (a2 b t e : EReal))
  (h3 : ∀ b t e, m ((c : Thread nD τ).loc main_arg3) (ix3 b t e) = (a3 b t e : EReal))
  (h4 : ∀ b t e, m ((c : Thread nD τ).loc main_arg4) (ix3 b t e) = (a4 b t e : EReal))

include hC hS h1 h2 h3 h4 in
theorem keyP_apply (t : Fin cfg0.N) (b : Fin 8) (hb : b.val = t.val / 4) (h : Fin 8) (k : Fin 2304) (l : Fin 128) :
    keyP m c (first t) (ix3 h k l) = ((keyR a1 a2 a3 a4 C S b h k l : ℝ) : EReal) := by
  have hb' : b.val = (first t).val / 4 := by
    show b.val = 4 * (t.val / 4) / 4
    omega
  exact key_point (iblk m c 4 (first t)) (iblk m c 5 (first t)) (iblk m c 6 (first t)) (iblk m c 7 (first t)) (iblk m c 8 (first t))
    (iblk m c 10 (first t)) (iblk m c 11 (first t)) a1 a2 a3 a4 C S b h
    (fun k l => (blk4 m c (first t) b k _ hb').trans (host_v54 m c a1 h1 (a2 b k) b k _ h l rfl))
    (fun k l => (blk5 m c (first t) b k l hb').trans (host_v67 m c a2 h2 (a1 b k) b k h l))
    (fun k l => (blk6 m c (first t) b k l hb').trans (host_v69 m c a2 h2 (a1 b k) b k h l))
    (fun k l => (blk7 m c (first t) k l).trans (lanes_v33 m c C hC k l))
    (fun k l => (blk8 m c (first t) k l).trans (lanes_v32 m c S hS k l))
    (fun k l => (blk10 m c (first t) b k _ hb').trans (host_v62 m c a3 h3 (a4 b k) b k _ h l rfl))
    (fun k l => (blk11 m c (first t) b k l hb').trans (host_v71 m c a4 h4 (a3 b k) b k h l)) k l

include h1 h3 in
theorem valP_apply (t : Fin cfg0.N) (b : Fin 8) (hb : b.val = t.val / 4) (h : Fin 8) (d : Fin 80) (k : Fin 2304) :
    valP m c (first t) (ix3 h d k) = ((valR a1 a3 b h d k : ℝ) : EReal) := by
  have hb' : b.val = (first t).val / 4 := by
    show b.val = 4 * (t.val / 4) / 4
    omega
  exact val_point (iblk m c 9 (first t)) (iblk m c 12 (first t)) a1 a3 b h
    (fun k d => (blk9 m c (first t) b k _ hb').trans (host_v57 m c a1 h1 b k _ h d rfl))
    (fun k d => (blk12 m c (first t) b k _ hb').trans (host_v65 m c a3 h3 b k _ h d rfl)) d k

include hC hS h0 h1 h2 h3 h4 in
/-- What a grid point leaves at one element. -/
theorem point_apply (t : Fin cfg0.N) (b : Fin 8) (q : Fin 2048) (r : Fin 512) (e : Fin 512) (h : Fin 8) (d : Fin 64)
    (hb : b.val = t.val / 4) (hq : q.val = 512 * (t.val % 4) + r.val) (he : e.val = 64 * h + d) :
    (outsAt0 m c t.val t.isLt).1 (ix3 0 r e)
      = ((att (scoR a0 a1 a2 a3 a4 C S b q h) (valR a1 a3 b h ⟨d, Nat.lt_trans d.isLt (by decide)⟩) : ℝ) : EReal) := by
  rw [out_point]
  exact outV_apply (iblk m c 0 t) (iblk m c 1 t) (iblk m c 2 t) (iblk m c 3 t) (keyP m c (first t)) (valP m c (first t)) r e
    (qryR a0 C S b q) (keyR a1 a2 a3 a4 C S b) (valR a1 a3 b)
    (fun h l => qry_point (iblk m c 0 t) (iblk m c 1 t) (iblk m c 2 t) (iblk m c 3 t) r _ l _ (C q) (S q)
      ((blk0 m c t b q r _ hb hq).trans (host_v37 m c a0 h0 b q _ h l rfl)) ((blk1 m c t b q r _ hb hq).trans (host_v45 m c a0 h0 b q _ h l rfl))
      ((blk2 m c t q r l hq).trans (lanes_v31 m c C hC q l)) ((blk3 m c t q r l hq).trans (lanes_v32 m c S hS q l)))
    (fun h k l => keyP_apply m c C S hC hS a1 a2 a3 a4 h1 h2 h3 h4 t b hb h k l)
    (fun h d k => valP_apply m c a1 a3 h1 h3 t b hb h d k) (fun h k => val_ones a1 a3 b h k) h d he

include hC hS h0 h1 h2 h3 h4 in
theorem final (G : Vec Ideal S8x2048x512 .f32)
    (hG : ∀ (b : Fin 8) (q : Fin 2048) (e : Fin 512) (h : Fin 8) (d : Fin 64), e.val = 64 * h + d →
      G (ix3 b q e) = ((att (scoR a0 a1 a2 a3 a4 C S b q h) (valR a1 a3 b h ⟨d, Nat.lt_trans d.isLt (by decide)⟩) : ℝ) : EReal)) :
    (dats m 0 c).arrAt 13 cfg0.N = G := by
  refine (dats m 0 c).arrAt_eq_of_covers 13 _ (by decide +kernel) fun t hf y => ?_
  idx_vars y
  obtain rfl : y0 = 0 := Subsingleton.elim _ _
  have ht : t.val < 32 := point_lt t
  have i0 : win0_13.index t = ![t.val / 4, t.val % 4, 0] := (idx t).2.2.2.2.2.2.2.2.2.2.2.2.2
  have k0 : ((win0_13.blk t).view.emb (ix3 0 y1 y2) 0).val = t.val / 4 := by
    blk_simp [i0]
    first | done | rfl
  have k1 : ((win0_13.blk t).view.emb (ix3 0 y1 y2) 1).val = t.val % 4 * 512 + y1.val := by
    blk_simp [i0]
  have k2 : ((win0_13.blk t).view.emb (ix3 0 y1 y2) 2).val = y2.val := by
    blk_simp [i0]
  have hq' : t.val % 4 * 512 + y1.val = 512 * (t.val % 4) + y1.val := by omega
  have ke : (win0_13.blk t).view.emb (ix3 0 y1 y2) = (ix3 ⟨t.val / 4, by omega⟩ ⟨512 * (t.val % 4) + y1, by omega⟩ y2 : S8x2048x512.Idx) :=
    at3 _ _ k0 (k1.trans hq') k2
  have kG : G ((win0_13.blk t).view.emb (ix3 0 y1 y2)) = _ := (congrArg G ke).trans
    (hG _ _ y2 ⟨y2.val / 64, by omega⟩ ⟨y2.val % 64, by omega⟩ (Nat.div_add_mod _ _).symm)
  have kP := point_apply m c C S hC hS a0 a1 a2 a3 a4 h0 h1 h2 h3 h4 t ⟨t.val / 4, by omega⟩ ⟨512 * (t.val % 4) + y1, by omega⟩ y1 y2
    ⟨y2.val / 64, by omega⟩ ⟨y2.val % 64, by omega⟩ rfl rfl (Nat.div_add_mod _ _).symm
  refine Eq.trans ?_ kG.symm
  rw [after0_13]
  exact kP

end

theorem algebraic [hKernelIdeal : Cert.KernelIdeal.Facts] [hReferenceIdeal : Cert.ReferenceIdeal.Facts] [hPre_finite : Cert.Pre_finite.Facts] :
    Cert.algebraic_KernelIdeal_ReferenceIdeal_pre_finite := by
  intro m g m' g' hpre hm
  refine ⟨fun c => (dats m 0 c).arrAt 13 cfg0.N, Cert.KernelIdeal.Value.run_blocks m g,
    (θ_run _ _ _).mono (fun r h c => ?_) (Cert.ReferenceIdeal.Value.run m' g')⟩
  obtain ⟨e0, e1, e2, e3, e4⟩ := hm c
  obtain ⟨C, S, hC, hS⟩ := tables
  obtain ⟨f0, f1, f2, f3, f4⟩ := finite_args m hpre c
  choose a0 h0 using f0
  choose a1 h1 using f1
  choose a2 h2 using f2
  choose a3 h3 using f3
  choose a4 h4 using f4
  refine ⟨(h c).1.trans ((Cert.ReferenceIdeal.Read.val_main_v99_eq m' c).trans ?_), (h c).2⟩
  rw [e0, e1, e2, e3, e4]
  exact (final m c C S hC hS (fun b t e => a0 (ix3 b t e)) (fun b t e => a1 (ix3 b t e)) (fun b t e => a2 (ix3 b t e))
    (fun b t e => a3 (ix3 b t e)) (fun b t e => a4 (ix3 b t e)) (fun b t e => h0 _) (fun b t e => h1 _) (fun b t e => h2 _) (fun b t e => h3 _) (fun b t e => h4 _) _
    (fun b q e h d he => ref_apply hC hS _ _ _ _ _ _ _ _ _ _ (fun b t e => h0 _) (fun b t e => h1 _) (fun b t e => h2 _) (fun b t e => h3 _) (fun b t e => h4 _)
      b q e h d he)).symm

end Cert.Mla
-- ==== Proof.lean ====
module

public import proofs.«01_k».proof.Defs
public import proofs.«01_k».proof.Proof.Ffn
public import proofs.«01_k».proof.Proof.Merge
public import proofs.«01_k».proof.Proof.Mla
public import proofs.«01_k».proof.Proof.Gen.Pre_finite
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel4.Frame
public import proofs.«01_k».proof.Proof.Gen.Kernel4Ideal.Frame
public import proofs.«01_k».proof.Proof.Gen.Reference4Ideal.Run

@[expose] public section
noncomputable section

namespace Cert.Proof

open Idealize.ShloMosaic Idealize.SL.Sem

/-- The plain form runs, leaves its arguments alone and holds no counter. -/
theorem ref_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The plain form runs, leaves its arguments alone and holds no counter. -/
theorem ref_frame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The plain form runs, leaves its arguments alone and holds no counter. -/
theorem ref_frame4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    fun m ρ _ => Cert.Kernel2.Gen.frame m ρ,
    fun m ρ _ => Cert.Kernel2Ideal.Gen.frame m ρ,
    ref_frame2,
    fun m ρ _ => Cert.Kernel4.Gen.frame m ρ,
    fun m ρ _ => Cert.Kernel4Ideal.Gen.frame m ρ,
    ref_frame4,
    IdealRules.named_const.statement Cert.KernelIdeal.κ "q_scale" .f32 0x3E16C740#32 _ rfl,
    Mla.algebraic,
    trivial,
    Ffn.algebraic,
    trivial,
    Merge.algebraic⟩

end Cert.Proof

end
